-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S3x512x2048 : Shape := ⟨3, ![3, 512, 2048]⟩
abbrev S1024x2048 : Shape := ⟨2, ![1024, 2048]⟩
abbrev S3x1024x512 : Shape := ⟨3, ![3, 1024, 512]⟩
abbrev S4x1024x512 : Shape := ⟨3, ![4, 1024, 512]⟩
abbrev S_ : Shape := ⟨0, ![]⟩
abbrev S3 : Shape := ⟨1, ![3]⟩
abbrev S4 : Shape := ⟨1, ![4]⟩
abbrev S1 : Shape := ⟨1, ![1]⟩
abbrev S1x512x2048 : Shape := ⟨3, ![1, 512, 2048]⟩
abbrev S512x2048 : Shape := ⟨2, ![512, 2048]⟩
abbrev S1024x512 : Shape := ⟨2, ![1024, 512]⟩
abbrev S1x512x512 : Shape := ⟨3, ![1, 512, 512]⟩
abbrev S512x512 : Shape := ⟨2, ![512, 512]⟩
abbrev S1x1024x512 : Shape := ⟨3, ![1, 1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S4096x512, .f32⟩
  | .local _ .vmem, ⟨1, _⟩ => ⟨S1024x4096, .f32⟩
  | .local _ .vmem, ⟨2, _⟩ => ⟨S3x512x2048, .f32⟩
  | .local _ .vmem, ⟨3, _⟩ => ⟨S1024x2048, .f32⟩
  | .local _ .vmem, ⟨4, _⟩ => ⟨S3x1024x512, .bf16⟩
  | .local _ .vmem, ⟨5, _⟩ => ⟨S4x1024x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 2 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v19 : BitVec 32 := Scalar.addi v2 c1_i32_14
  let c4_i32_15 : BitVec 32 := 4#32
  let c0_i32_16 : BitVec 32 := 0#32
  let v20 : BitVec 1 := Scalar.cmpi .eq c4_i32_15 c0_i32_16
  let c1_i32_17 : BitVec 32 := 1#32
  let v21 : BitVec 32 := Scalar.select v20 c1_i32_17 c4_i32_15
  let v22 : BitVec 32 := Scalar.remsi v19 v21
  let c0_i32_19 : BitVec 32 := 0#32
  let v24 : BitVec 1 := Scalar.cmpi .slt v22 c0_i32_19
  let c0_i32_20 : BitVec 32 := 0#32
  let v25 : BitVec 1 := Scalar.cmpi .slt v21 c0_i32_20
  let v26 : BitVec 1 := Scalar.xori v24 v25
  let c0_i32_18 : BitVec 32 := 0#32
  let v23 : BitVec 1 := Scalar.cmpi .ne v22 c0_i32_18
  let v27 : BitVec 1 := Scalar.andi v26 v23
  let v28 : BitVec 32 := Scalar.addi v22 v21
  let v29 : BitVec 32 := Scalar.select v27 v28 v22
  let c1_i32_22 : BitVec 32 := 1#32
  let v30 : BitVec 32 := Scalar.muli v29 c1_i32_22
  let v31 : BitVec 32 := Scalar.addi c0_i32_23 v30
  v31.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_24 : BitVec 32 := 2#32
  let v32 : BitVec 32 := Scalar.addi v2 c2_i32_24
  let c4_i32_25 : BitVec 32 := 4#32
  let c0_i32_26 : BitVec 32 := 0#32
  let v33 : BitVec 1 := Scalar.cmpi .eq c4_i32_25 c0_i32_26
  let c1_i32_27 : BitVec 32 := 1#32
  let v34 : BitVec 32 := Scalar.select v33 c1_i32_27 c4_i32_25
  let v35 : BitVec 32 := Scalar.remsi v32 v34
  let c0_i32_29 : BitVec 32 := 0#32
  let v37 : BitVec 1 := Scalar.cmpi .slt v35 c0_i32_29
  let c0_i32_30 : BitVec 32 := 0#32
  let v38 : BitVec 1 := Scalar.cmpi .slt v34 c0_i32_30
  let v39 : BitVec 1 := Scalar.xori v37 v38
  let c0_i32_28 : BitVec 32 := 0#32
  let v36 : BitVec 1 := Scalar.cmpi .ne v35 c0_i32_28
  let v40 : BitVec 1 := Scalar.andi v39 v36
  let v41 : BitVec 32 := Scalar.addi v35 v34
  let v42 : BitVec 32 := Scalar.select v40 v41 v35
  let c1_i32_32 : BitVec 32 := 1#32
  let v43 : BitVec 32 := Scalar.muli v42 c1_i32_32
  let v44 : BitVec 32 := Scalar.addi c0_i32_33 v43
  v44.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v45 : BitVec 32 := Scalar.addi v2 c3_i32
  let c4_i32_34 : BitVec 32 := 4#32
  let c0_i32_35 : BitVec 32 := 0#32
  let v46 : BitVec 1 := Scalar.cmpi .eq c4_i32_34 c0_i32_35
  let c1_i32_36 : BitVec 32 := 1#32
  let v47 : BitVec 32 := Scalar.select v46 c1_i32_36 c4_i32_34
  let v48 : BitVec 32 := Scalar.remsi v45 v47
  let c0_i32_38 : BitVec 32 := 0#32
  let v50 : BitVec 1 := Scalar.cmpi .slt v48 c0_i32_38
  let c0_i32_39 : BitVec 32 := 0#32
  let v51 : BitVec 1 := Scalar.cmpi .slt v47 c0_i32_39
  let v52 : BitVec 1 := Scalar.xori v50 v51
  let c0_i32_37 : BitVec 32 := 0#32
  let v49 : BitVec 1 := Scalar.cmpi .ne v48 c0_i32_37
  let v53 : BitVec 1 := Scalar.andi v52 v49
  let v54 : BitVec 32 := Scalar.addi v48 v47
  let v55 : BitVec 32 := Scalar.select v53 v54 v48
  let c1_i32_41 : BitVec 32 := 1#32
  let v56 : BitVec 32 := Scalar.muli v55 c1_i32_41
  let v57 : BitVec 32 := Scalar.addi c0_i32_42 v56
  v57.toNat
def k0_off1 (d0 : Dev nD) (c2_i32_175 : BitVec 32) : Fin 2 → Nat :=
  let c0_183 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v184 : BitVec 32 := Scalar.addi v2 c2_i32_175
  let c4_i32_176 : BitVec 32 := 4#32
  let c0_i32_177 : BitVec 32 := 0#32
  let v185 : BitVec 1 := Scalar.cmpi .eq c4_i32_176 c0_i32_177
  let c1_i32_178 : BitVec 32 := 1#32
  let v186 : BitVec 32 := Scalar.select v185 c1_i32_178 c4_i32_176
  let v187 : BitVec 32 := Scalar.remsi v184 v186
  let c0_i32_180 : BitVec 32 := 0#32
  let v189 : BitVec 1 := Scalar.cmpi .slt v187 c0_i32_180
  let c0_i32_181 : BitVec 32 := 0#32
  let v190 : BitVec 1 := Scalar.cmpi .slt v186 c0_i32_181
  let v191 : BitVec 1 := Scalar.xori v189 v190
  let c0_i32_179 : BitVec 32 := 0#32
  let v188 : BitVec 1 := Scalar.cmpi .ne v187 c0_i32_179
  let v192 : BitVec 1 := Scalar.andi v191 v188
  let v193 : BitVec 32 := Scalar.addi v187 v186
  let v194 : BitVec 32 := Scalar.select v192 v193 v187
  let c512_i32_182 : BitVec 32 := 512#32
  let v195 : BitVec 32 := Scalar.muli v194 c512_i32_182
  let v196 : Index := Scalar.indexCast v195
  ![0, v196.toNat]
def k0_off2 (d0 : Dev nD) (c2_i32_175 : BitVec 32) : Fin 3 → Nat :=
  let c1_186 : Index := 1#32
  let c0_187 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v184 : BitVec 32 := Scalar.addi v2 c2_i32_175
  let c4_i32_176 : BitVec 32 := 4#32
  let c0_i32_177 : BitVec 32 := 0#32
  let v185 : BitVec 1 := Scalar.cmpi .eq c4_i32_176 c0_i32_177
  let c1_i32_178 : BitVec 32 := 1#32
  let v186 : BitVec 32 := Scalar.select v185 c1_i32_178 c4_i32_176
  let v187 : BitVec 32 := Scalar.remsi v184 v186
  let c0_i32_180 : BitVec 32 := 0#32
  let v189 : BitVec 1 := Scalar.cmpi .slt v187 c0_i32_180
  let c0_i32_181 : BitVec 32 := 0#32
  let v190 : BitVec 1 := Scalar.cmpi .slt v186 c0_i32_181
  let v191 : BitVec 1 := Scalar.xori v189 v190
  let c0_i32_179 : BitVec 32 := 0#32
  let v188 : BitVec 1 := Scalar.cmpi .ne v187 c0_i32_179
  let v192 : BitVec 1 := Scalar.andi v191 v188
  let v193 : BitVec 32 := Scalar.addi v187 v186
  let v194 : BitVec 32 := Scalar.select v192 v193 v187
  let c512_i32_185 : BitVec 32 := 512#32
  let v199 : BitVec 32 := Scalar.muli v194 c512_i32_185
  let v200 : Index := Scalar.indexCast v199
  ![1, 0, v200.toNat]
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_196 : BitVec 32 := 0#32
  let c0_i32_197 : BitVec 32 := 0#32
  ![v2.toNat, 0, 0]
def k0_dev4 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_175 : BitVec 32 := 2#32
  let v184 : BitVec 32 := Scalar.addi v2 c2_i32_175
  let c4_i32_176 : BitVec 32 := 4#32
  let c0_i32_177 : BitVec 32 := 0#32
  let v185 : BitVec 1 := Scalar.cmpi .eq c4_i32_176 c0_i32_177
  let c1_i32_178 : BitVec 32 := 1#32
  let v186 : BitVec 32 := Scalar.select v185 c1_i32_178 c4_i32_176
  let v187 : BitVec 32 := Scalar.remsi v184 v186
  let c0_i32_180 : BitVec 32 := 0#32
  let v189 : BitVec 1 := Scalar.cmpi .slt v187 c0_i32_180
  let c0_i32_181 : BitVec 32 := 0#32
  let v190 : BitVec 1 := Scalar.cmpi .slt v186 c0_i32_181
  let v191 : BitVec 1 := Scalar.xori v189 v190
  let c0_i32_179 : BitVec 32 := 0#32
  let v188 : BitVec 1 := Scalar.cmpi .ne v187 c0_i32_179
  let v192 : BitVec 1 := Scalar.andi v191 v188
  let v193 : BitVec 32 := Scalar.addi v187 v186
  let v194 : BitVec 32 := Scalar.select v192 v193 v187
  let c1_i32_194 : BitVec 32 := 1#32
  let v209 : BitVec 32 := Scalar.muli v194 c1_i32_194
  let v210 : BitVec 32 := Scalar.addi c0_i32_195 v209
  v210.toNat
def k0_dev5 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_200 : BitVec 32 := 1#32
  let v219 : BitVec 32 := Scalar.addi v2 c1_i32_200
  let c4_i32_201 : BitVec 32 := 4#32
  let c0_i32_202 : BitVec 32 := 0#32
  let v220 : BitVec 1 := Scalar.cmpi .eq c4_i32_201 c0_i32_202
  let c1_i32_203 : BitVec 32 := 1#32
  let v221 : BitVec 32 := Scalar.select v220 c1_i32_203 c4_i32_201
  let v222 : BitVec 32 := Scalar.remsi v219 v221
  let c0_i32_205 : BitVec 32 := 0#32
  let v224 : BitVec 1 := Scalar.cmpi .slt v222 c0_i32_205
  let c0_i32_206 : BitVec 32 := 0#32
  let v225 : BitVec 1 := Scalar.cmpi .slt v221 c0_i32_206
  let v226 : BitVec 1 := Scalar.xori v224 v225
  let c0_i32_204 : BitVec 32 := 0#32
  let v223 : BitVec 1 := Scalar.cmpi .ne v222 c0_i32_204
  let v227 : BitVec 1 := Scalar.andi v226 v223
  let v228 : BitVec 32 := Scalar.addi v222 v221
  let v229 : BitVec 32 := Scalar.select v227 v228 v222
  let c1_i32_220 : BitVec 32 := 1#32
  let v244 : BitVec 32 := Scalar.muli v229 c1_i32_220
  let v245 : BitVec 32 := Scalar.addi c0_i32_221 v244
  v245.toNat
def k0_dev6 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_226 : BitVec 32 := 3#32
  let v254 : BitVec 32 := Scalar.addi v2 c3_i32_226
  let c4_i32_227 : BitVec 32 := 4#32
  let c0_i32_228 : BitVec 32 := 0#32
  let v255 : BitVec 1 := Scalar.cmpi .eq c4_i32_227 c0_i32_228
  let c1_i32_229 : BitVec 32 := 1#32
  let v256 : BitVec 32 := Scalar.select v255 c1_i32_229 c4_i32_227
  let v257 : BitVec 32 := Scalar.remsi v254 v256
  let c0_i32_231 : BitVec 32 := 0#32
  let v259 : BitVec 1 := Scalar.cmpi .slt v257 c0_i32_231
  let c0_i32_232 : BitVec 32 := 0#32
  let v260 : BitVec 1 := Scalar.cmpi .slt v256 c0_i32_232
  let v261 : BitVec 1 := Scalar.xori v259 v260
  let c0_i32_230 : BitVec 32 := 0#32
  let v258 : BitVec 1 := Scalar.cmpi .ne v257 c0_i32_230
  let v262 : BitVec 1 := Scalar.andi v261 v258
  let v263 : BitVec 32 := Scalar.addi v257 v256
  let v264 : BitVec 32 := Scalar.select v262 v263 v257
  let c1_i32_246 : BitVec 32 := 1#32
  let v279 : BitVec 32 := Scalar.muli v264 c1_i32_246
  let v280 : BitVec 32 := Scalar.addi c0_i32_247 v279
  v280.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_267 : BitVec 32 := 1024#32
  let v310 : BitVec 32 := Scalar.muli v2 c1024_i32_267
  let v311 : Index := Scalar.indexCast v310
  let c0_268 : Index := 0#32
  ![v311.toNat, 0]
def k0_off6 (d0 : Dev nD) (c2_i32_269 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v313 : BitVec 32 := Scalar.addi v2 c2_i32_269
  let c4_i32_270 : BitVec 32 := 4#32
  let c0_i32_271 : BitVec 32 := 0#32
  let v314 : BitVec 1 := Scalar.cmpi .eq c4_i32_270 c0_i32_271
  let c1_i32_272 : BitVec 32 := 1#32
  let v315 : BitVec 32 := Scalar.select v314 c1_i32_272 c4_i32_270
  let v316 : BitVec 32 := Scalar.remsi v313 v315
  let c0_i32_274 : BitVec 32 := 0#32
  let v318 : BitVec 1 := Scalar.cmpi .slt v316 c0_i32_274
  let c0_i32_275 : BitVec 32 := 0#32
  let v319 : BitVec 1 := Scalar.cmpi .slt v315 c0_i32_275
  let v320 : BitVec 1 := Scalar.xori v318 v319
  let c0_i32_273 : BitVec 32 := 0#32
  let v317 : BitVec 1 := Scalar.cmpi .ne v316 c0_i32_273
  let v321 : BitVec 1 := Scalar.andi v320 v317
  let v322 : BitVec 32 := Scalar.addi v316 v315
  let v323 : BitVec 32 := Scalar.select v321 v322 v316
  ![v323.toNat]
def k0_off7 (d0 : Dev nD) (c2_i32_269 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v313 : BitVec 32 := Scalar.addi v2 c2_i32_269
  let c4_i32_270 : BitVec 32 := 4#32
  let c0_i32_271 : BitVec 32 := 0#32
  let v314 : BitVec 1 := Scalar.cmpi .eq c4_i32_270 c0_i32_271
  let c1_i32_272 : BitVec 32 := 1#32
  let v315 : BitVec 32 := Scalar.select v314 c1_i32_272 c4_i32_270
  let v316 : BitVec 32 := Scalar.remsi v313 v315
  let c0_i32_274 : BitVec 32 := 0#32
  let v318 : BitVec 1 := Scalar.cmpi .slt v316 c0_i32_274
  let c0_i32_275 : BitVec 32 := 0#32
  let v319 : BitVec 1 := Scalar.cmpi .slt v315 c0_i32_275
  let v320 : BitVec 1 := Scalar.xori v318 v319
  let c0_i32_273 : BitVec 32 := 0#32
  let v317 : BitVec 1 := Scalar.cmpi .ne v316 c0_i32_273
  let v321 : BitVec 1 := Scalar.andi v320 v317
  let v322 : BitVec 32 := Scalar.addi v316 v315
  let v323 : BitVec 32 := Scalar.select v321 v322 v316
  let c0_i32_280 : BitVec 32 := 0#32
  let c0_i32_281 : BitVec 32 := 0#32
  ![v323.toNat, 0, 0]
def k0_off8 (d0 : Dev nD) (c2_i32_269 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v313 : BitVec 32 := Scalar.addi v2 c2_i32_269
  let c4_i32_270 : BitVec 32 := 4#32
  let c0_i32_271 : BitVec 32 := 0#32
  let v314 : BitVec 1 := Scalar.cmpi .eq c4_i32_270 c0_i32_271
  let c1_i32_272 : BitVec 32 := 1#32
  let v315 : BitVec 32 := Scalar.select v314 c1_i32_272 c4_i32_270
  let v316 : BitVec 32 := Scalar.remsi v313 v315
  let c0_i32_274 : BitVec 32 := 0#32
  let v318 : BitVec 1 := Scalar.cmpi .slt v316 c0_i32_274
  let c0_i32_275 : BitVec 32 := 0#32
  let v319 : BitVec 1 := Scalar.cmpi .slt v315 c0_i32_275
  let v320 : BitVec 1 := Scalar.xori v318 v319
  let c0_i32_273 : BitVec 32 := 0#32
  let v317 : BitVec 1 := Scalar.cmpi .ne v316 c0_i32_273
  let v321 : BitVec 1 := Scalar.andi v320 v317
  let v322 : BitVec 32 := Scalar.addi v316 v315
  let v323 : BitVec 32 := Scalar.select v321 v322 v316
  let v332 : Index := Scalar.indexCast v323
  let c0_284 : Index := 0#32
  let c0_285 : Index := 0#32
  ![v332.toNat, 0, 0]
def k0_off9 (d0 : Dev nD) (c2_i32_269 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v313 : BitVec 32 := Scalar.addi v2 c2_i32_269
  let c4_i32_270 : BitVec 32 := 4#32
  let c0_i32_271 : BitVec 32 := 0#32
  let v314 : BitVec 1 := Scalar.cmpi .eq c4_i32_270 c0_i32_271
  let c1_i32_272 : BitVec 32 := 1#32
  let v315 : BitVec 32 := Scalar.select v314 c1_i32_272 c4_i32_270
  let v316 : BitVec 32 := Scalar.remsi v313 v315
  let c0_i32_274 : BitVec 32 := 0#32
  let v318 : BitVec 1 := Scalar.cmpi .slt v316 c0_i32_274
  let c0_i32_275 : BitVec 32 := 0#32
  let v319 : BitVec 1 := Scalar.cmpi .slt v315 c0_i32_275
  let v320 : BitVec 1 := Scalar.xori v318 v319
  let c0_i32_273 : BitVec 32 := 0#32
  let v317 : BitVec 1 := Scalar.cmpi .ne v316 c0_i32_273
  let v321 : BitVec 1 := Scalar.andi v320 v317
  let v322 : BitVec 32 := Scalar.addi v316 v315
  let v323 : BitVec 32 := Scalar.select v321 v322 v316
  let c1024_i32_286 : BitVec 32 := 1024#32
  let v336 : BitVec 32 := Scalar.muli v323 c1024_i32_286
  let v337 : Index := Scalar.indexCast v336
  let c0_287 : Index := 0#32
  ![v337.toNat, 0]
def k0_dev7 (d0 : Dev nD) : Nat :=
  let c0_i32_356_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_347_r0 : BitVec 32 := 1#32
  let v410_r0 : BitVec 32 := Scalar.addi v2 c1_i32_347_r0
  let c4_i32_348_r0 : BitVec 32 := 4#32
  let c0_i32_349_r0 : BitVec 32 := 0#32
  let v411_r0 : BitVec 1 := Scalar.cmpi .eq c4_i32_348_r0 c0_i32_349_r0
  let c1_i32_350_r0 : BitVec 32 := 1#32
  let v412_r0 : BitVec 32 := Scalar.select v411_r0 c1_i32_350_r0 c4_i32_348_r0
  let v413_r0 : BitVec 32 := Scalar.remsi v410_r0 v412_r0
  let c0_i32_352_r0 : BitVec 32 := 0#32
  let v415_r0 : BitVec 1 := Scalar.cmpi .slt v413_r0 c0_i32_352_r0
  let c0_i32_353_r0 : BitVec 32 := 0#32
  let v416_r0 : BitVec 1 := Scalar.cmpi .slt v412_r0 c0_i32_353_r0
  let v417_r0 : BitVec 1 := Scalar.xori v415_r0 v416_r0
  let c0_i32_351_r0 : BitVec 32 := 0#32
  let v414_r0 : BitVec 1 := Scalar.cmpi .ne v413_r0 c0_i32_351_r0
  let v418_r0 : BitVec 1 := Scalar.andi v417_r0 v414_r0
  let v419_r0 : BitVec 32 := Scalar.addi v413_r0 v412_r0
  let v420_r0 : BitVec 32 := Scalar.select v418_r0 v419_r0 v413_r0
  let c1_i32_355_r0 : BitVec 32 := 1#32
  let v421_r0 : BitVec 32 := Scalar.muli v420_r0 c1_i32_355_r0
  let v422_r0 : BitVec 32 := Scalar.addi c0_i32_356_r0 v421_r0
  v422_r0.toNat
def k0_dev8 (d0 : Dev nD) : Nat :=
  let c0_i32_366_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_357_r0 : BitVec 32 := 2#32
  let v423_r0 : BitVec 32 := Scalar.addi v2 c2_i32_357_r0
  let c4_i32_358_r0 : BitVec 32 := 4#32
  let c0_i32_359_r0 : BitVec 32 := 0#32
  let v424_r0 : BitVec 1 := Scalar.cmpi .eq c4_i32_358_r0 c0_i32_359_r0
  let c1_i32_360_r0 : BitVec 32 := 1#32
  let v425_r0 : BitVec 32 := Scalar.select v424_r0 c1_i32_360_r0 c4_i32_358_r0
  let v426_r0 : BitVec 32 := Scalar.remsi v423_r0 v425_r0
  let c0_i32_362_r0 : BitVec 32 := 0#32
  let v428_r0 : BitVec 1 := Scalar.cmpi .slt v426_r0 c0_i32_362_r0
  let c0_i32_363_r0 : BitVec 32 := 0#32
  let v429_r0 : BitVec 1 := Scalar.cmpi .slt v425_r0 c0_i32_363_r0
  let v430_r0 : BitVec 1 := Scalar.xori v428_r0 v429_r0
  let c0_i32_361_r0 : BitVec 32 := 0#32
  let v427_r0 : BitVec 1 := Scalar.cmpi .ne v426_r0 c0_i32_361_r0
  let v431_r0 : BitVec 1 := Scalar.andi v430_r0 v427_r0
  let v432_r0 : BitVec 32 := Scalar.addi v426_r0 v425_r0
  let v433_r0 : BitVec 32 := Scalar.select v431_r0 v432_r0 v426_r0
  let c1_i32_365_r0 : BitVec 32 := 1#32
  let v434_r0 : BitVec 32 := Scalar.muli v433_r0 c1_i32_365_r0
  let v435_r0 : BitVec 32 := Scalar.addi c0_i32_366_r0 v434_r0
  v435_r0.toNat
def k0_dev9 (d0 : Dev nD) : Nat :=
  let c0_i32_376_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_367_r0 : BitVec 32 := 3#32
  let v436_r0 : BitVec 32 := Scalar.addi v2 c3_i32_367_r0
  let c4_i32_368_r0 : BitVec 32 := 4#32
  let c0_i32_369_r0 : BitVec 32 := 0#32
  let v437_r0 : BitVec 1 := Scalar.cmpi .eq c4_i32_368_r0 c0_i32_369_r0
  let c1_i32_370_r0 : BitVec 32 := 1#32
  let v438_r0 : BitVec 32 := Scalar.select v437_r0 c1_i32_370_r0 c4_i32_368_r0
  let v439_r0 : BitVec 32 := Scalar.remsi v436_r0 v438_r0
  let c0_i32_372_r0 : BitVec 32 := 0#32
  let v441_r0 : BitVec 1 := Scalar.cmpi .slt v439_r0 c0_i32_372_r0
  let c0_i32_373_r0 : BitVec 32 := 0#32
  let v442_r0 : BitVec 1 := Scalar.cmpi .slt v438_r0 c0_i32_373_r0
  let v443_r0 : BitVec 1 := Scalar.xori v441_r0 v442_r0
  let c0_i32_371_r0 : BitVec 32 := 0#32
  let v440_r0 : BitVec 1 := Scalar.cmpi .ne v439_r0 c0_i32_371_r0
  let v444_r0 : BitVec 1 := Scalar.andi v443_r0 v440_r0
  let v445_r0 : BitVec 32 := Scalar.addi v439_r0 v438_r0
  let v446_r0 : BitVec 32 := Scalar.select v444_r0 v445_r0 v439_r0
  let c1_i32_375_r0 : BitVec 32 := 1#32
  let v447_r0 : BitVec 32 := Scalar.muli v446_r0 c1_i32_375_r0
  let v448_r0 : BitVec 32 := Scalar.addi c0_i32_376_r0 v447_r0
  v448_r0.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Peers.lean ====
/-
# Peers: who talks to whom, over which semaphores and which slots

Four devices each own a block of rows of `x` and a copy of `w`. Device `c` computes its rows' product with all of
`w`, and sends to every other device the block of columns which that device is to return. Here are the names that
the rest of the proof uses: the peer `hop j c` which is `j + 1` places after `c`, the peer `back j c` which is
`j + 1` places before it, the semaphores, and the slots of the scratch buffers, each at an offset given as a number.
The device and offset words that the kernel computes are brought to these closed forms by trying the four devices.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueLayout
public import Idealize.ShloMosaic.Lib.ViewIndex
public import Idealize.ShloMosaic.Lib.Transfers
public import Idealize.ShloMosaic.Lib.Ring
public import Idealize.ShloMosaic.Lib.Tactic

@[expose] public section

noncomputable section

namespace Cert.Exchange

open Cert.KernelIdeal Cert.KernelIdeal.Gen
open Idealize.ShloMosaic
open Idealize.ShloMosaic.TcCoe

/-! ## The peers -/

/-- The device `j + 1` places after `c`. -/
def hop (j : Fin 3) (c : Dev nD) : Dev nD := ⟨(c.val + (j.val + 1)) % 4, Nat.mod_lt _ (by decide)⟩
/-- The device `j + 1` places before `c`. -/
def back (j : Fin 3) (c : Dev nD) : Dev nD := ⟨(c.val + (3 - j.val)) % 4, Nat.mod_lt _ (by decide)⟩
/-- The opposite shift: `j + 1` places one way round are `3 - j` places the other way. -/
def opp (j : Fin 3) : Fin 3 := ⟨2 - j.val, by omega⟩

/-- Forward and back again. -/
theorem back_hop (j : Fin 3) (c : Dev nD) : back j (hop j c) = c := by revert j c; decide
/-- Back and forward again. -/
theorem hop_back (j : Fin 3) (c : Dev nD) : hop j (back j c) = c := by revert j c; decide
/-- Forward by the opposite shift is back. -/
theorem hop_opp (j : Fin 3) (c : Dev nD) : hop (opp j) c = back j c := by revert j c; decide
/-- Back by the opposite shift is forward. -/
theorem back_opp (j : Fin 3) (c : Dev nD) : back (opp j) c = hop j c := by revert j c; decide
/-- The opposite of the opposite shift is the shift. -/
theorem opp_opp (j : Fin 3) : opp (opp j) = j := by revert j; decide
/-- No peer is the device itself, -/
theorem hop_ne (j : Fin 3) (c : Dev nD) : hop j c ≠ c := by revert j c; decide
/-- either way round. -/
theorem back_ne (j : Fin 3) (c : Dev nD) : back j c ≠ c := by revert j c; decide
/-- Different shifts reach different peers. -/
theorem hop_inj (j j' : Fin 3) (c : Dev nD) : hop j c = hop j' c ↔ j = j' := by revert j j' c; decide
/-- A device is a peer's shift exactly if the peer is its shift back. -/
theorem eq_hop_iff (j : Fin 3) (c d : Dev nD) : d = hop j c ↔ c = back j d := by revert j c d; decide

/-- The shift as a permutation of the devices. -/
def hopE (j : Fin 3) : Dev nD ≃ Dev nD := ⟨hop j, back j, back_hop j, hop_back j⟩

/-! ## The device words -/

/-- The first barrier signal goes one place on, -/
theorem dev1_eq (c : Dev nD) : (⟨k0_dev1 c, k0_dev1_lt c⟩ : Dev nD) = hop 0 c := by revert c; decide
/-- the second two places, -/
theorem dev2_eq (c : Dev nD) : (⟨k0_dev2 c, k0_dev2_lt c⟩ : Dev nD) = hop 1 c := by revert c; decide
/-- the third three. -/
theorem dev3_eq (c : Dev nD) : (⟨k0_dev3 c, k0_dev3_lt c⟩ : Dev nD) = hop 2 c := by revert c; decide
/-- The first block goes two places on, -/
theorem dev4_eq (c : Dev nD) : (⟨k0_dev4 c, k0_dev4_lt c⟩ : Dev nD) = hop 1 c := by revert c; decide
/-- the second one place, -/
theorem dev5_eq (c : Dev nD) : (⟨k0_dev5 c, k0_dev5_lt c⟩ : Dev nD) = hop 0 c := by revert c; decide
/-- the third three. -/
theorem dev6_eq (c : Dev nD) : (⟨k0_dev6 c, k0_dev6_lt c⟩ : Dev nD) = hop 2 c := by revert c; decide
/-- The first exit signal goes one place on, -/
theorem dev7_eq (c : Dev nD) : (⟨k0_dev7 c, k0_dev7_lt c⟩ : Dev nD) = hop 0 c := by revert c; decide
/-- the second two places, -/
theorem dev8_eq (c : Dev nD) : (⟨k0_dev8 c, k0_dev8_lt c⟩ : Dev nD) = hop 1 c := by revert c; decide
/-- the third three. -/
theorem dev9_eq (c : Dev nD) : (⟨k0_dev9 c, k0_dev9_lt c⟩ : Dev nD) = hop 2 c := by revert c; decide

/-! ## The offset words -/

/-- The sum's columns for the device itself start at its own 512th, -/
theorem off1_own (c : Dev nD) : k0_off1 c 0#32 = ![0, 512 * c.val] := by revert c; decide
/-- and those for a peer at the peer's. -/
theorem off1_hop (j : Fin 3) (c : Dev nD) : k0_off1 c (BitVec.ofNat 32 (1 + j.val)) = ![0, 512 * (hop j c).val] := by revert j c; decide
/-- So do the last band's columns for the device itself -/
theorem off2_own (c : Dev nD) : k0_off2 c 0#32 = ![1, 0, 512 * c.val] := by revert c; decide
/-- and for a peer. -/
theorem off2_hop (j : Fin 3) (c : Dev nD) : k0_off2 c (BitVec.ofNat 32 (1 + j.val)) = ![1, 0, 512 * (hop j c).val] := by revert j c; decide
/-- The receive semaphore waited on is the one for the peer's block. -/
theorem off6_hop (j : Fin 3) (c : Dev nD) : k0_off6 c (BitVec.ofNat 32 (1 + j.val)) = ![(hop j c).val] := by revert j c; decide
/-- The landing slot waited for is the peer's, -/
theorem off7_hop (j : Fin 3) (c : Dev nD) : k0_off7 c (BitVec.ofNat 32 (1 + j.val)) = ![(hop j c).val, 0, 0] := by revert j c; decide
/-- and so is the one loaded. -/
theorem off8_hop (j : Fin 3) (c : Dev nD) : k0_off8 c (BitVec.ofNat 32 (1 + j.val)) = ![(hop j c).val, 0, 0] := by revert j c; decide
/-- The rows stored are the peer's 1024. -/
theorem off9_hop (j : Fin 3) (c : Dev nD) : k0_off9 c (BitVec.ofNat 32 (1 + j.val)) = ![1024 * (hop j c).val, 0] := by revert j c; decide

/-! ## The semaphores -/

/-- The runtime's barrier semaphore. -/
abbrev barS := (SemArray.scalar (sig.barrier 0 rfl) : Sems sig S_).sem
/-- The semaphore of the exit handshake. -/
abbrev exitS := cc0_scoped0.sem
/-- The semaphore that the load of `x` completes on. -/
abbrev xS : DmaSem sig := cc0_scratch5.sem
/-- The semaphore of slot `i` of the row bands of `w`. -/
abbrev wS (i : ℕ) (h : ∀ a, (![i] : Fin 1 → ℕ) a + S1.size a ≤ S3.size a) : DmaSem sig :=
  ((cc0_scratch6.slice (Rect.unit (s := S3) ![i] S1.size h)).squeeze S_ squeezes_S1_S_).sem
/-- The semaphore that send slot `i` completes on. -/
abbrev sS (i : ℕ) (h : ∀ a, (![i] : Fin 1 → ℕ) a + S1.size a ≤ S3.size a) : DmaSem sig :=
  ((cc0_scratch7.slice (Rect.unit (s := S3) ![i] S1.size h)).squeeze S_ squeezes_S1_S_).sem
/-- The receive semaphore at offset `o`. -/
abbrev rSo (o : Fin 1 → ℕ) (h : ∀ a, o a + S1.size a ≤ S4.size a) : DmaSem sig :=
  ((cc0_scratch8.slice (Rect.unit (s := S4) o S1.size h)).squeeze S_ squeezes_S1_S_).sem

/-- Each of three semaphores is in its array, -/
theorem inb3 (i : Fin 3) : ∀ a, (![i.val] : Fin 1 → ℕ) a + S1.size a ≤ S3.size a := by revert i; decide
/-- and each of four. -/
theorem inb4 (s : Dev nD) : ∀ a, (![s.val] : Fin 1 → ℕ) a + S1.size a ≤ S4.size a := by revert s; decide

/-- The semaphore of send slot `i`, as a number. -/
def sendS (i : Fin 3) : DmaSem sig := sS i.val (inb3 i)
/-- The semaphore on which the block from device `s` lands. -/
def recvS (s : Dev nD) : DmaSem sig := rSo ![s.val] (inb4 s)

/-- The receive semaphore at a computed offset, by the device that the offset names. -/
theorem rSo_eq (o : Fin 1 → ℕ) (h) (s : Dev nD) (e : o = ![s.val]) : rSo o h = recvS s := by subst e; rfl

/-! ## The slots -/

/-- `x`'s rows as the device holds them. -/
abbrev xM : Memref sig .tc .hbm S1024x4096 .f32 := Memref.whole main_arg0
/-- The whole of `w`. -/
abbrev wM : Memref sig .tc .hbm S4096x2048 .f32 := Memref.whole main_arg1
/-- The result's columns. -/
abbrev oM : Memref sig .tc .vmem S4096x512 .f32 := Memref.whole cc0_stg0_0
/-- The copy of `x`'s rows. -/
abbrev xvM : Memref sig .tc .vmem S1024x4096 .f32 := Memref.whole cc0_scratch0
/-- The three slots for row bands of `w`. -/
abbrev wvM : Memref sig .tc .vmem S3x512x2048 .f32 := Memref.whole cc0_scratch1
/-- The sum over the bands so far. -/
abbrev accM : Memref sig .tc .vmem S1024x2048 .f32 := Memref.whole cc0_scratch2
/-- The three blocks to send. -/
abbrev sbM : Memref sig .tc .vmem S3x1024x512 .bf16 := Memref.whole cc0_scratch3
/-- The four slots where blocks land. -/
abbrev rbM : Memref sig .tc .vmem S4x1024x512 .bf16 := Memref.whole cc0_scratch4

/-- Rows `o .. o + 511` of `w`. -/
abbrev band (o : ℕ) (h : ∀ a, (![o, 0] : Fin 2 → ℕ) a + S512x2048.size a ≤ S4096x2048.size a) : Memref sig .tc .hbm S512x2048 .f32 :=
  wM.slice (Rect.unit (s := S4096x2048) ![o, 0] S512x2048.size h) (fun _ => rfl)
/-- Slot `i` for a row band. -/
abbrev wSlot (i : ℕ) (h : ∀ a, (![i, 0, 0] : Fin 3 → ℕ) a + S1x512x2048.size a ≤ S3x512x2048.size a) : Memref sig .tc .vmem S512x2048 .f32 :=
  (wvM.slice (Rect.unit (s := S3x512x2048) ![i, 0, 0] S1x512x2048.size h) (fun _ => rfl)).squeeze S512x2048 squeezes_S1x512x2048_S512x2048
/-- Send slot `i`. -/
abbrev sSlot (i : ℕ) (h : ∀ a, (![i, 0, 0] : Fin 3 → ℕ) a + S1x1024x512.size a ≤ S3x1024x512.size a) : Memref sig .tc .vmem S1024x512 .bf16 :=
  (sbM.slice (Rect.unit (s := S3x1024x512) ![i, 0, 0] S1x1024x512.size h) (fun _ => rfl)).squeeze S1024x512 squeezes_S1x1024x512_S1024x512
/-- The landing slot at offset `o`. -/
abbrev rSlot (o : Fin 3 → ℕ) (h : ∀ a, o a + S1x1024x512.size a ≤ S4x1024x512.size a) : Memref sig .tc .vmem S1024x512 .bf16 :=
  (rbM.slice (Rect.unit (s := S4x1024x512) o S1x1024x512.size h) (fun _ => rfl)).squeeze S1024x512 squeezes_S1x1024x512_S1024x512

/-- Each slot of bands is in its buffer, -/
theorem wInb (i : Fin 3) : ∀ a, (![i.val, 0, 0] : Fin 3 → ℕ) a + S1x512x2048.size a ≤ S3x512x2048.size a := by revert i; decide
/-- each send slot, -/
theorem sInb (i : Fin 3) : ∀ a, (![i.val, 0, 0] : Fin 3 → ℕ) a + S1x1024x512.size a ≤ S3x1024x512.size a := by revert i; decide
/-- and each landing slot. -/
theorem rInb (s : Dev nD) : ∀ a, (![s.val, 0, 0] : Fin 3 → ℕ) a + S1x1024x512.size a ≤ S4x1024x512.size a := by revert s; decide

/-! ## The sets of the slots -/

/-- A statement about three axes from the three. -/
theorem forall3 {p : Fin 3 → Prop} (h0 : p 0) (h1 : p 1) (h2 : p 2) (a : Fin 3) : p a := by
  fin_cases a
  · exact h0
  · exact h1
  · exact h2

/-- The indices of slot `i` of the row bands. -/
def wSet (i : ℕ) (h : ∀ a, (![i, 0, 0] : Fin 3 → ℕ) a + S1x512x2048.size a ≤ S3x512x2048.size a) : Finset S3x512x2048.Idx := (wSlot i h).view.set
/-- The indices of send slot `i`. -/
def sSet (i : ℕ) (h : ∀ a, (![i, 0, 0] : Fin 3 → ℕ) a + S1x1024x512.size a ≤ S3x1024x512.size a) : Finset S3x1024x512.Idx := (sSlot i h).view.set
/-- The indices of the landing slot of device `s`'s block. -/
def rSet (s : Dev nD) : Finset S4x1024x512.Idx := (rSlot ![s.val, 0, 0] (rInb s)).view.set

/-- An index is in a slot of bands if its first coordinate is the slot; -/
theorem mem_wSet {i : ℕ} {h} {x : S3x512x2048.Idx} : x ∈ wSet i h ↔ (x 0).val = i := by
  unfold wSet
  rw [show (wSlot i h).view.set = (Rect.unit (s := S3x512x2048) ![i, 0, 0] S1x512x2048.size h).set from
    (View.set_reshape _ _).trans (View.set_slice_whole _ _), Rect.mem_set_unit]
  constructor
  · intro H; have := H 0; simp only [Matrix.cons_val_zero] at this; change i ≤ _ ∧ _ < i + 1 at this; omega
  · intro H
    refine forall3 ?_ ⟨Nat.zero_le _, ?_⟩ ⟨Nat.zero_le _, ?_⟩
    · change i ≤ (x 0).val ∧ (x 0).val < i + 1; omega
    · rw [show (![i, 0, 0] : Fin 3 → ℕ) 1 = 0 from rfl, Nat.zero_add]; exact (x 1).isLt
    · rw [show (![i, 0, 0] : Fin 3 → ℕ) 2 = 0 from rfl, Nat.zero_add]; exact (x 2).isLt

/-- likewise for a send slot -/
theorem mem_sSet {i : ℕ} {h} {x : S3x1024x512.Idx} : x ∈ sSet i h ↔ (x 0).val = i := by
  unfold sSet
  rw [show (sSlot i h).view.set = (Rect.unit (s := S3x1024x512) ![i, 0, 0] S1x1024x512.size h).set from
    (View.set_reshape _ _).trans (View.set_slice_whole _ _), Rect.mem_set_unit]
  constructor
  · intro H; have := H 0; simp only [Matrix.cons_val_zero] at this; change i ≤ _ ∧ _ < i + 1 at this; omega
  · intro H
    refine forall3 ?_ ⟨Nat.zero_le _, ?_⟩ ⟨Nat.zero_le _, ?_⟩
    · change i ≤ (x 0).val ∧ (x 0).val < i + 1; omega
    · rw [show (![i, 0, 0] : Fin 3 → ℕ) 1 = 0 from rfl, Nat.zero_add]; exact (x 1).isLt
    · rw [show (![i, 0, 0] : Fin 3 → ℕ) 2 = 0 from rfl, Nat.zero_add]; exact (x 2).isLt

/-- and for a landing slot. -/
theorem mem_rSet {s : Dev nD} {x : S4x1024x512.Idx} : x ∈ rSet s ↔ (x 0).val = s.val := by
  unfold rSet
  rw [show (rSlot ![s.val, 0, 0] (rInb s)).view.set = (Rect.unit (s := S4x1024x512) ![s.val, 0, 0] S1x1024x512.size (rInb s)).set from
    (View.set_reshape _ _).trans (View.set_slice_whole _ _), Rect.mem_set_unit]
  constructor
  · intro H; have := H 0; simp only [Matrix.cons_val_zero] at this; change s.val ≤ _ ∧ _ < s.val + 1 at this; omega
  · intro H
    refine forall3 ?_ ⟨Nat.zero_le _, ?_⟩ ⟨Nat.zero_le _, ?_⟩
    · change s.val ≤ (x 0).val ∧ (x 0).val < s.val + 1; omega
    · rw [show (![s.val, 0, 0] : Fin 3 → ℕ) 1 = 0 from rfl, Nat.zero_add]; exact (x 1).isLt
    · rw [show (![s.val, 0, 0] : Fin 3 → ℕ) 2 = 0 from rfl, Nat.zero_add]; exact (x 2).isLt

/-- Different slots of bands share nothing, -/
theorem wSet_disjoint (i j : Fin 3) (hij : i ≠ j) : Disjoint (wSet i.val (wInb i)) (wSet j.val (wInb j)) :=
  Finset.disjoint_left.mpr fun x hx hy => hij (Fin.ext ((mem_wSet.mp hx).symm.trans (mem_wSet.mp hy)))
/-- nor do different send slots -/
theorem sSet_disjoint (i j : Fin 3) (hij : i ≠ j) : Disjoint (sSet i.val (sInb i)) (sSet j.val (sInb j)) :=
  Finset.disjoint_left.mpr fun x hx hy => hij (Fin.ext ((mem_sSet.mp hx).symm.trans (mem_sSet.mp hy)))
/-- or different landing slots. -/
theorem rSet_disjoint (i j : Dev nD) (hij : i ≠ j) : Disjoint (rSet i) (rSet j) :=
  Finset.disjoint_left.mpr fun x hx hy => hij (Fin.ext ((mem_rSet.mp hx).symm.trans (mem_rSet.mp hy)))

/-- The three slots of bands are the whole buffer, -/
theorem wSet_cover : Finset.univ.biUnion (fun i : Fin 3 => wSet i.val (wInb i)) = Finset.univ :=
  Finset.eq_univ_iff_forall.mpr fun x => Finset.mem_biUnion.mpr ⟨⟨(x 0).val, (x 0).isLt⟩, Finset.mem_univ _, mem_wSet.mpr rfl⟩
/-- so are the three send slots -/
theorem sSet_cover : Finset.univ.biUnion (fun i : Fin 3 => sSet i.val (sInb i)) = Finset.univ :=
  Finset.eq_univ_iff_forall.mpr fun x => Finset.mem_biUnion.mpr ⟨⟨(x 0).val, (x 0).isLt⟩, Finset.mem_univ _, mem_sSet.mpr rfl⟩
/-- and the four landing slots. -/
theorem rSet_cover : Finset.univ.biUnion rSet = Finset.univ :=
  Finset.eq_univ_iff_forall.mpr fun x => Finset.mem_biUnion.mpr ⟨⟨(x 0).val, (x 0).isLt⟩, Finset.mem_univ _, mem_rSet.mpr rfl⟩

end Cert.Exchange

end
-- ==== Proof.Contents.lean ====
/-
# Contents: what every buffer of the exchange holds, as functions of the inputs

For a device with rows `X` of `x` and its copy `W` of `w`: the row bands of `w`, the columns of `x` met by each band,
the sum over the bands (`acc0` to `acc6`), the block of columns that a peer is to return (`blk`), the block that the
device keeps (`own`), and the columns of the result row block by row block (`rows`). Every copy, load and store of
the kernel is read here as one of these, at an offset that is a variable wherever the kernel computes it.
-/
module

public import proofs.«01_k».proof.Proof.Peers

@[expose] public section

noncomputable section

namespace Cert.Exchange

open Cert.KernelIdeal Cert.KernelIdeal.Gen
open Idealize.ShloMosaic Idealize.ShloMosaic.ValueIdx
open Idealize.ShloMosaic.TcCoe

variable {F : FTy → Type} [FloatOps F]

/-! ## The pieces of `x` and of `w` -/

/-- Columns `o .. o + 511` of the rows `X`. -/
def xCols (X : S1024x4096.Idx → Elt F .f32) (o : ℕ) (ho : o + 512 ≤ 4096) : Vec F S1024x512 .f32 :=
  fun y => X (ix2 (n0 := 1024) (n1 := 4096) (y 0) ⟨o + (y 1).val, by have : (y 1).val < 512 := (y 1).isLt; omega⟩)
/-- Rows `o .. o + 511` of `W`, as the one page of a stack. -/
def wBand (W : S4096x2048.Idx → Elt F .f32) (o : ℕ) (ho : o + 512 ≤ 4096) : Vec F S1x512x2048 .f32 :=
  fun y => W (ix2 (n0 := 4096) (n1 := 2048) ⟨o + (y 1).val, by have : (y 1).val < 512 := (y 1).isLt; omega⟩ (y 2))
/-- Columns `512 t .. 512 t + 511` of that band. -/
def wCols (W : S4096x2048.Idx → Elt F .f32) (o : ℕ) (ho : o + 512 ≤ 4096) (t : Dev nD) : Vec F S1x512x512 .f32 :=
  fun y => W (ix2 (n0 := 4096) (n1 := 2048) ⟨o + (y 1).val, by have : (y 1).val < 512 := (y 1).isLt; omega⟩
    ⟨512 * t.val + (y 2).val, by have : (y 2).val < 512 := (y 2).isLt; have : t.val < 4 := t.isLt; omega⟩)
/-- Columns `512 t .. 512 t + 511` of the sum `A`. -/
def accCols (A : S1024x2048.Idx → Elt F .f32) (t : Dev nD) : Vec F S1024x512 .f32 :=
  fun y => A (ix2 (n0 := 1024) (n1 := 2048) (y 0) ⟨512 * t.val + (y 1).val, by have : (y 1).val < 512 := (y 1).isLt; have : t.val < 4 := t.isLt; omega⟩)
/-- A buffer of slots, each of whose slots holds the rows `o .. o + 511` of `W`. -/
def wBuf (W : S4096x2048.Idx → Elt F .f32) (o : ℕ) (ho : o + 512 ≤ 4096) : S3x512x2048.Idx → Elt F .f32 :=
  fun z => W (ix2 (n0 := 4096) (n1 := 2048) ⟨o + (z 1).val, by have : (z 1).val < 512 := (z 1).isLt; omega⟩ (z 2))
/-- A buffer of send slots, each holding the block `v`. -/
def sBuf (v : Vec F S1x1024x512 .bf16) : S3x1024x512.Idx → Elt F .bf16 :=
  fun z => v (ix3 (n0 := 1) (n1 := 1024) (n2 := 512) 0 (z 1) (z 2))
/-- A buffer of landing slots, each holding the block `v`. -/
def rBuf (v : Vec F S1x1024x512 .bf16) : S4x1024x512.Idx → Elt F .bf16 :=
  fun z => v (ix3 (n0 := 1) (n1 := 1024) (n2 := 512) 0 (z 1) (z 2))
/-- The columns `f` with row block `s` replaced by `v`. -/
def putRows (s : Dev nD) (v : Vec F S1024x512 .f32) (f : S4096x512.Idx → Elt F .f32) : S4096x512.Idx → Elt F .f32 :=
  fun z => if h : 1024 * s.val ≤ (z 0).val ∧ (z 0).val < 1024 * s.val + 1024 then v (ix2 (n0 := 1024) (n1 := 512) ⟨(z 0).val - 1024 * s.val, by omega⟩ (z 1)) else f z

/-! ## The sum over the bands -/

section
variable (X : S1024x4096.Idx → Elt F .f32) (W : S4096x2048.Idx → Elt F .f32)

/-- The product over the first band. -/
def acc0 : Vec F S1024x2048 .f32 := k0_pay1 (xCols X 0 (by decide)) (wBand W 0 (by decide))
/-- The sum over two bands. -/
def acc1 : Vec F S1024x2048 .f32 := k0_pay3 (xCols X 512 (by decide)) (k0_pay2 (wBand W 512 (by decide))) (acc0 X W)
/-- The sum over three bands. -/
def acc2 : Vec F S1024x2048 .f32 := k0_pay4 (xCols X 1024 (by decide)) (wBand W 1024 (by decide)) (acc1 X W)
/-- The sum over four bands. -/
def acc3 : Vec F S1024x2048 .f32 := k0_pay5 (xCols X 1536 (by decide)) (wBand W 1536 (by decide)) (acc2 X W)
/-- The sum over five bands. -/
def acc4 : Vec F S1024x2048 .f32 := k0_pay6 (xCols X 2048 (by decide)) (wBand W 2048 (by decide)) (acc3 X W)
/-- The sum over six bands. -/
def acc5 : Vec F S1024x2048 .f32 := k0_pay8 (k0_pay7 (xCols X 2560 (by decide)) (wBand W 2560 (by decide))) (acc4 X W)
/-- The sum over seven bands. -/
def acc6 : Vec F S1024x2048 .f32 := k0_pay9 (xCols X 3072 (by decide)) (wBand W 3072 (by decide)) (acc5 X W)
/-- The block for peer `t`: its columns of the whole sum, at the narrow type of the wire. -/
def blk (t : Dev nD) : Vec F S1x1024x512 .bf16 :=
  k0_pay10 (accCols (acc6 X W) t) (xCols X 3584 (by decide)) (wCols W 3584 (by decide) t)
/-- The block that device `t` keeps: its own columns of its own rows. -/
def own (t : Dev nD) : Vec F S1024x512 .f32 :=
  k0_pay13 (accCols (acc6 X W) t) (xCols X 3584 (by decide)) (wCols W 3584 (by decide) t)
end

/-! ## Indices through the slots -/

/-- Page `i` of a stack: the page's index `(a, b)` is the stack's `(i, a, b)`. -/
theorem unit_page {n A B : ℕ} (i : ℕ) (h : ∀ a, (![i, 0, 0] : Fin 3 → ℕ) a + (⟨3, ![1, A, B]⟩ : Shape).size a ≤ (⟨3, ![n, A, B]⟩ : Shape).size a)
    (hi : i < n) (z : Fin 1) (a : Fin A) (b : Fin B) :
    (Rect.unit (s := ⟨3, ![n, A, B]⟩) ![i, 0, 0] (⟨3, ![1, A, B]⟩ : Shape).size h).emb (ix3 z a b) = ix3 ⟨i, hi⟩ a b := by
  refine (eq_ix3 _).trans ?_
  have e0 : (Rect.unit (s := ⟨3, ![n, A, B]⟩) ![i, 0, 0] (⟨3, ![1, A, B]⟩ : Shape).size h).emb (ix3 z a b) 0 = ⟨i, hi⟩ :=
    Fin.ext (by show i + 1 * z.val = i; omega)
  have e1 : (Rect.unit (s := ⟨3, ![n, A, B]⟩) ![i, 0, 0] (⟨3, ![1, A, B]⟩ : Shape).size h).emb (ix3 z a b) 1 = a :=
    Fin.ext (by show 0 + 1 * a.val = a.val; omega)
  have e2 : (Rect.unit (s := ⟨3, ![n, A, B]⟩) ![i, 0, 0] (⟨3, ![1, A, B]⟩ : Shape).size h).emb (ix3 z a b) 2 = b :=
    Fin.ext (by show 0 + 1 * b.val = b.val; omega)
  rw [e0, e1, e2]; rfl

/-- Where an entry of a slot of bands is in its buffer, -/
theorem wSlot_emb (i : ℕ) (h) (hi : i < 3) (a : Fin 512) (b : Fin 2048) :
    (wSlot i h).view.emb (ix2 a b) = ix3 ⟨i, hi⟩ a b := by
  show (Rect.unit (s := S3x512x2048) ![i, 0, 0] S1x512x2048.size h).emb (Shape.reshapeEquiv _ (ix2 a b)) = _
  rw [reshapeEquiv_ix2_1ab]; exact unit_page i h hi _ a b
/-- of a send slot, -/
theorem sSlot_emb (i : ℕ) (h) (hi : i < 3) (a : Fin 1024) (b : Fin 512) :
    (sSlot i h).view.emb (ix2 a b) = ix3 ⟨i, hi⟩ a b := by
  show (Rect.unit (s := S3x1024x512) ![i, 0, 0] S1x1024x512.size h).emb (Shape.reshapeEquiv _ (ix2 a b)) = _
  rw [reshapeEquiv_ix2_1ab]; exact unit_page i h hi _ a b
/-- of a landing slot, -/
theorem rSlot_emb (i : ℕ) (h) (hi : i < 4) (a : Fin 1024) (b : Fin 512) :
    (rSlot ![i, 0, 0] h).view.emb (ix2 a b) = ix3 ⟨i, hi⟩ a b := by
  show (Rect.unit (s := S4x1024x512) ![i, 0, 0] S1x1024x512.size h).emb (Shape.reshapeEquiv _ (ix2 a b)) = _
  rw [reshapeEquiv_ix2_1ab]; exact unit_page i h hi _ a b
/-- and where an entry of a band is in `w`. -/
theorem band_emb (o : ℕ) (h) (ho : o + 512 ≤ 4096) (a : Fin 512) (b : Fin 2048) :
    (band o h).view.emb (ix2 a b) = ix2 ⟨o + a.val, by omega⟩ b := by
  refine (eq_ix2 _).trans ?_
  have e0 : (band o h).view.emb (ix2 a b) 0 = (⟨o + a.val, by omega⟩ : Fin 4096) := Fin.ext (by show o + 1 * a.val = o + a.val; omega)
  have e1 : (band o h).view.emb (ix2 a b) 1 = b := Fin.ext (by show 0 + 1 * b.val = b.val; omega)
  rw [e0, e1]; rfl

/-! ## What lands -/

/-- A row band landed in a slot. -/
theorem wLand (W : S4096x2048.Idx → Elt F .f32) (i : ℕ) (h) (o : ℕ) (h') (ho : o + 512 ≤ 4096) (f : S3x512x2048.Idx → Elt F .f32)
    (z : S3x512x2048.Idx) (hz : z ∈ wSet i h) :
    (wSlot i h).view.write (Elt F) f ((band o h').view.read (Elt F) W) Finset.univ z = wBuf W o ho z := by
  obtain ⟨y, -, rfl⟩ := Finset.mem_map.mp hz
  rw [View.write_emb_of_mem _ _ (Finset.mem_univ y), View.read_apply]
  obtain ⟨a, b, rfl⟩ : ∃ a b, y = ix2 (n0 := 512) (n1 := 2048) a b := ⟨_, _, eq_ix2 y⟩
  have hi : i < 3 := by have := h 0; change i + 1 ≤ 3 at this; omega
  rw [band_emb o h' ho, wSlot_emb i h hi]; rfl

/-- A block landed in the slot of the device that it is from. -/
theorem rLand (v : Vec F S1x1024x512 .bf16) (i : ℕ) (h) (s : Dev nD) (h') (f : S4x1024x512.Idx → Elt F .bf16)
    (z : S4x1024x512.Idx) (hz : z ∈ rSet s) :
    (rSlot ![s.val, 0, 0] h').view.write (Elt F) f ((sSlot i h).view.read (Elt F) (sBuf v)) Finset.univ z = rBuf v z := by
  obtain ⟨y, -, rfl⟩ := Finset.mem_map.mp hz
  rw [show (rSlot ![s.val, 0, 0] (rInb s)).view.emb y = (rSlot ![s.val, 0, 0] h').view.emb y from rfl,
    View.write_emb_of_mem _ _ (Finset.mem_univ y), View.read_apply]
  obtain ⟨a, b, rfl⟩ : ∃ a b, y = ix2 (n0 := 1024) (n1 := 512) a b := ⟨_, _, eq_ix2 y⟩
  have hi : i < 3 := by have := h 0; change i + 1 ≤ 3 at this; omega
  rw [sSlot_emb i h hi, rSlot_emb s.val h' s.isLt]; rfl

/-- A block stored to a send slot. -/
theorem sStore (v : Vec F S1x1024x512 .bf16) (i : ℕ) (h) (f : S3x1024x512.Idx → Elt F .bf16) (z : S3x1024x512.Idx) (hz : z ∈ sSet i h) :
    (sbM.access (Rect.unit (s := S3x1024x512) ![i, 0, 0] S1x1024x512.size h)).write (Elt F) f v Finset.univ z = sBuf v z := by
  have hi : i < 3 := by have := h 0; change i + 1 ≤ 3 at this; omega
  have e : z = (sbM.access (Rect.unit (s := S3x1024x512) ![i, 0, 0] S1x1024x512.size h)).emb (ix3 (n0 := 1) (n1 := 1024) (n2 := 512) 0 (z 1) (z 2)) := by
    refine Eq.trans ?_ (unit_page i h hi 0 (z 1) (z 2)).symm
    refine (eq_ix3 z).trans ?_
    rw [show z 0 = ⟨i, hi⟩ from Fin.ext (mem_sSet.mp hz)]; rfl
  rw [e, View.write_emb_of_mem _ _ (Finset.mem_univ _), ← e]; rfl

/-! ## What the loads read -/

/-- The load of a band's columns of `x`. -/
theorem read_xCols (X : S1024x4096.Idx → Elt F .f32) (o : ℕ) (h) (ho : o + 512 ≤ 4096) :
    xvM.view.readAt (Elt F) (Rect.unit (s := S1024x4096) ![0, o] S1024x512.size h).toLoadRect X = xCols X o ho := by
  funext y
  show X _ = X _
  congr 1
  refine (eq_ix2 _).trans ?_
  congr 1
  · exact Fin.ext (by show 0 + 1 * (y 0).val = (y 0).val; omega)
  · exact Fin.ext (by show o + 1 * (y 1).val = o + (y 1).val; omega)

/-- The load of a band from its slot. -/
theorem read_wBand (W : S4096x2048.Idx → Elt F .f32) (i : ℕ) (h) (o : ℕ) (ho : o + 512 ≤ 4096) :
    wvM.view.readAt (Elt F) (Rect.unit (s := S3x512x2048) ![i, 0, 0] S1x512x2048.size h).toLoadRect (wBuf W o ho) = wBand W o ho := by
  funext y
  show W _ = W _
  congr 1
  congr 1
  · exact Fin.ext (by show o + (0 + 1 * (y 1).val) = o + (y 1).val; omega)
  · exact Fin.ext (by show 0 + 1 * (y 2).val = (y 2).val; omega)

/-- The load of one device's columns of the last band. -/
theorem read_wCols (W : S4096x2048.Idx → Elt F .f32) (p : Fin 3 → ℕ) (h) (t : Dev nD) (e : p = ![1, 0, 512 * t.val]) (o : ℕ) (ho : o + 512 ≤ 4096) :
    wvM.view.readAt (Elt F) (Rect.unit (s := S3x512x2048) p S1x512x512.size h).toLoadRect (wBuf W o ho) = wCols W o ho t := by
  subst e
  funext y
  show W _ = W _
  congr 1
  congr 1
  · exact Fin.ext (by show o + (0 + 1 * (y 1).val) = o + (y 1).val; omega)
  · exact Fin.ext (by show 512 * t.val + 1 * (y 2).val = 512 * t.val + (y 2).val; omega)

/-- The load of one device's columns of the sum. -/
theorem read_accCols (A : S1024x2048.Idx → Elt F .f32) (p : Fin 2 → ℕ) (h) (t : Dev nD) (e : p = ![0, 512 * t.val]) :
    accM.view.readAt (Elt F) (Rect.unit (s := S1024x2048) p S1024x512.size h).toLoadRect A = accCols A t := by
  subst e
  funext y
  show A _ = A _
  congr 1
  refine (eq_ix2 _).trans ?_
  congr 1
  · exact Fin.ext (by show 0 + 1 * (y 0).val = (y 0).val; omega)
  · exact Fin.ext (by show 512 * t.val + 1 * (y 1).val = 512 * t.val + (y 1).val; omega)

/-- The load of a landed block. -/
theorem read_rBuf (v : Vec F S1x1024x512 .bf16) (p : Fin 3 → ℕ) (h) (s : Dev nD) (e : p = ![s.val, 0, 0]) :
    rbM.view.readAt (Elt F) (Rect.unit (s := S4x1024x512) p S1x1024x512.size h).toLoadRect (rBuf v) = v := by
  subst e
  funext y
  show v _ = v _
  congr 1
  refine Eq.trans ?_ (eq_ix3 y).symm
  congr 1
  · exact Fin.ext (by have : (y 0).val < 1 := (y 0).isLt; show 0 = (y 0).val; omega)
  · exact Fin.ext (by show 0 + 1 * (y 1).val = (y 1).val; omega)
  · exact Fin.ext (by show 0 + 1 * (y 2).val = (y 2).val; omega)

/-- A row block stored to the result. -/
theorem oStore (v : Vec F S1024x512 .f32) (p : Fin 2 → ℕ) (h) (s : Dev nD) (e : p = ![1024 * s.val, 0]) (f : S4096x512.Idx → Elt F .f32) :
    (oM.access (Rect.unit (s := S4096x512) p S1024x512.size h)).write (Elt F) f v Finset.univ = putRows s v f := by
  subst e
  funext z
  unfold putRows
  by_cases hz : 1024 * s.val ≤ (z 0).val ∧ (z 0).val < 1024 * s.val + 1024
  · rw [dif_pos hz]
    have e : z = (oM.access (Rect.unit (s := S4096x512) ![1024 * s.val, 0] S1024x512.size h)).emb
        (ix2 (n0 := 1024) (n1 := 512) ⟨(z 0).val - 1024 * s.val, by omega⟩ (z 1)) := by
      refine (eq_ix2 z).trans (Eq.trans ?_ (eq_ix2 _).symm)
      congr 1
      · exact Fin.ext (by show (z 0).val = 1024 * s.val + 1 * ((z 0).val - 1024 * s.val); omega)
      · exact Fin.ext (by show (z 1).val = 0 + 1 * (z 1).val; omega)
    conv_lhs => rw [e]
    rw [View.write_emb_of_mem _ _ (Finset.mem_univ _)]; rfl
  · rw [dif_neg hz]
    refine View.write_of_not_mem _ _ _ fun hm => hz ?_
    rw [View.setOn_univ, show (oM.access (Rect.unit (s := S4096x512) ![1024 * s.val, 0] S1024x512.size h)).set
      = (Rect.unit (s := S4096x512) ![1024 * s.val, 0] S1024x512.size h).set from View.set_slice_whole _ _, Rect.mem_set_unit] at hm
    exact hm 0

/-! ## The result's columns -/

/-- The columns that device `c` returns, row block by row block: `o` its own, `b s` from the device `s`. -/
def rows (c : Dev nD) (o : Vec F S1024x512 .f32) (b : Dev nD → Vec F S1x1024x512 .bf16) (f : S4096x512.Idx → Elt F .f32) : S4096x512.Idx → Elt F .f32 :=
  putRows (hop 2 c) (k0_pay16 (b (hop 2 c))) (putRows (hop 0 c) (k0_pay15 (b (hop 0 c))) (putRows (hop 1 c) (k0_pay14 (b (hop 1 c))) (putRows c o f)))

/-- A replaced row block reads as what replaced it; -/
theorem putRows_at (s : Dev nD) (v : Vec F S1024x512 .f32) (f : S4096x512.Idx → Elt F .f32) (a : Fin 1024) (b : Fin 512) :
    putRows s v f (ix2 (n0 := 4096) (n1 := 512) ⟨1024 * s.val + a.val, by have : s.val < 4 := s.isLt; omega⟩ b) = v (ix2 a b) := by
  unfold putRows
  rw [dif_pos (show 1024 * s.val ≤ 1024 * s.val + a.val ∧ 1024 * s.val + a.val < 1024 * s.val + 1024 by omega)]
  congr 2
  exact Fin.ext (by show 1024 * s.val + a.val - 1024 * s.val = a.val; omega)

/-- another row block as before. -/
theorem putRows_off (s s' : Dev nD) (hs : s' ≠ s) (v : Vec F S1024x512 .f32) (f : S4096x512.Idx → Elt F .f32) (a : Fin 1024) (b : Fin 512) :
    putRows s v f (ix2 (n0 := 4096) (n1 := 512) ⟨1024 * s'.val + a.val, by have : s'.val < 4 := s'.isLt; omega⟩ b)
      = f (ix2 (n0 := 4096) (n1 := 512) ⟨1024 * s'.val + a.val, by have : s'.val < 4 := s'.isLt; omega⟩ b) := by
  unfold putRows
  refine dif_neg ?_
  show ¬ (1024 * s.val ≤ 1024 * s'.val + a.val ∧ 1024 * s'.val + a.val < 1024 * s.val + 1024)
  intro h; exact hs (Fin.ext (by omega))

/-- Row block `c` is the device's own. -/
theorem rows_own (c : Dev nD) (o : Vec F S1024x512 .f32) (b) (f : S4096x512.Idx → Elt F .f32) (x : Fin 1024) (y : Fin 512) :
    rows c o b f (ix2 (n0 := 4096) (n1 := 512) ⟨1024 * c.val + x.val, by have : c.val < 4 := c.isLt; omega⟩ y) = o (ix2 x y) := by
  unfold rows
  rw [putRows_off _ _ (hop_ne 2 c).symm, putRows_off _ _ (hop_ne 0 c).symm, putRows_off _ _ (hop_ne 1 c).symm, putRows_at]

/-- Row block `s` of another device is the block that came from it, widened. -/
theorem rows_peer (c : Dev nD) (o : Vec F S1024x512 .f32) (b) (f : S4096x512.Idx → Elt F .f32) (j : Fin 3) (x : Fin 1024) (y : Fin 512) :
    rows c o b f (ix2 (n0 := 4096) (n1 := 512) ⟨1024 * (hop j c).val + x.val, by have : (hop j c).val < 4 := (hop j c).isLt; omega⟩ y)
      = k0_pay14 (b (hop j c)) (ix2 x y) := by
  unfold rows
  have h (i i' : Fin 3) (hi : i ≠ i') : hop i c ≠ hop i' c := fun e => hi ((hop_inj i i' c).mp e)
  fin_cases j
  · show putRows _ _ _ (ix2 ⟨1024 * (hop 0 c).val + x.val, _⟩ y) = k0_pay14 (b (hop 0 c)) (ix2 x y)
    rw [putRows_off _ _ (h 0 2 (by decide)), putRows_at]; rfl
  · show putRows _ _ _ (ix2 ⟨1024 * (hop 1 c).val + x.val, _⟩ y) = k0_pay14 (b (hop 1 c)) (ix2 x y)
    rw [putRows_off _ _ (h 1 2 (by decide)), putRows_off _ _ (h 1 0 (by decide)), putRows_at]
  · show putRows _ _ _ (ix2 ⟨1024 * (hop 2 c).val + x.val, _⟩ y) = k0_pay14 (b (hop 2 c)) (ix2 x y)
    rw [putRows_at]; rfl

/-- The columns whatever was there before: every row is in one of the four blocks. -/
theorem rows_any (c : Dev nD) (o : Vec F S1024x512 .f32) (b) (f f' : S4096x512.Idx → Elt F .f32) : rows c o b f = rows c o b f' := by
  funext z
  have hz : (z 0).val < 4096 := (z 0).isLt
  obtain ⟨s, x, y, e⟩ : ∃ (s : Dev nD) (x : Fin 1024) (y : Fin 512),
      z = ix2 (n0 := 4096) (n1 := 512) ⟨1024 * s.val + x.val, by have : s.val < 4 := s.isLt; omega⟩ y :=
    ⟨⟨(z 0).val / 1024, by show _ < 4; omega⟩, ⟨(z 0).val % 1024, by omega⟩, z 1, (eq_ix2 z).trans (by
      congr 1; exact Fin.ext (by show (z 0).val = 1024 * ((z 0).val / 1024) + (z 0).val % 1024; omega))⟩
  rw [e]
  by_cases hs : s = c
  · subst hs; rw [rows_own, rows_own]
  · obtain ⟨j, rfl⟩ : ∃ j, s = hop j c := (by decide : ∀ s c : Dev nD, s ≠ c → ∃ j, s = hop j c) s c hs
    rw [rows_peer, rows_peer]

end Cert.Exchange

end
-- ==== Proof.Schedule.lean ====
/-
# Schedule: the semaphores' rounds, what each device owes, and the order that keeps the waits from closing a circle

Every semaphore that devices share has one round.
* A device's barrier cell has three duties of one unit, one paid by each peer. Duty `j` is paid by `back j c`, and
  hands over the slot of that peer's landing buffer in which the block from `c` is to land.
* Its exit cell has three duties of one unit likewise, and they hand over nothing.
* A send cell has one duty, paid by the device's own transfer: it gives the send slot back.
* The receive cell for the device `s` has one duty, paid by the transfer from `s`: it hands over the landing slot with
  the block from `s` in it. The cell for the device itself is never used and has no duty.
The levels are 1 for barrier cells, 2 for receive cells, 3 for exit cells and 0 for all others: a device waits only on
a cell below every cell that it owes.
-/
module

public import proofs.«01_k».proof.Proof.Contents

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the shared semaphores. -/
abbrev UB : Type := URounds (GSem nD τ sig) (Fin 3)
/-- The pipeline's own rounds, the shared semaphores' rounds, and the counters of the copies within a device. -/
abbrev UU : Type := UR sig nD τ × (UB × Counters)

local notation "𝕄" => MT nD τ sig Unit (Elt F) ℕ UU ℕ

/-- The pipeline's rounds in the whole algebra. -/
abbrev EP : Emb (UR sig nD τ) 𝕄 := embL
/-- The shared semaphores' rounds in the user's algebra. -/
abbrev UBin : Emb UB UU := (Emb.inl : Emb UB (UB × Counters)).trans (Emb.inr : Emb (UB × Counters) UU)
/-- The shared semaphores' rounds in the whole algebra. -/
def EB : Emb UB 𝕄 := UBin.trans (uEmb : UEmb UU 𝕄).toEmb
/-- The schedule's ghost state has a place of its own. -/
instance EB_landsIn : (EB (F := F)).LandsIn (upEmb : UEmb _ 𝕄) := by unfold EB; infer_instance

variable (m : (ℓ : Loc nD τ sig) → Buf (Elt F) ℓ)

/-- The rows of `x` on device `c` at launch. -/
def inX (c : Dev nD) : S1024x4096.Idx → Elt F .f32 := m ((c : Thread nD τ).loc main_arg0)
/-- The copy of `w` on device `c` at launch. -/
def inW (c : Dev nD) : S4096x2048.Idx → Elt F .f32 := m ((c : Thread nD τ).loc main_arg1)
/-- The block that device `s` sends to device `t`. -/
def msg (s t : Dev nD) : Vec F S1x1024x512 .bf16 := blk (inX m s) (inW m s) t

/-! ## The cells -/

/-- The parts that a device's shared semaphores play. -/
inductive Part
  | bar | exit | send (i : Fin 3) | recv (s : Fin 4)
  deriving DecidableEq

/-- The semaphore that plays a part. -/
def semOf : Part → SemLoc sig
  | .bar => .reg barS
  | .exit => .reg exitS
  | .send i => .dma (sendS i)
  | .recv s => .dma (recvS s)

/-- All parts in a row. -/
def parts : List Part := [.bar, .exit, .send 0, .send 1, .send 2, .recv 0, .recv 1, .recv 2, .recv 3]
/-- Every part is in the row. -/
theorem mem_parts (p : Part) : p ∈ parts := by
  cases p with
  | bar => decide
  | exit => decide
  | send i => revert i; decide
  | recv s => revert s; decide
/-- There are finitely many parts. -/
instance : Fintype Part := ⟨parts.toFinset, fun p => List.mem_toFinset.mpr (mem_parts p)⟩
/-- The part that a semaphore plays, if any. -/
def partOf (sm : SemLoc sig) : Option Part := parts.find? fun p => semOf p = sm

/-- The part of a part's semaphore is the part. -/
theorem partOf_semOf (p : Part) : partOf (semOf p) = some p := by
  cases p with
  | bar => decide +kernel
  | exit => decide +kernel
  | send i => revert i; decide +kernel
  | recv s => revert s; decide +kernel

/-- The cell of a part on a device. -/
abbrev cell (c : Dev nD) (p : Part) : GSem nD τ sig := ((c : Thread nD τ), semOf p)

/-- Different parts and devices have different cells. -/
theorem cell_injective : Function.Injective fun cp : Dev nD × Part => cell cp.1 cp.2 := by
  rintro ⟨c, p⟩ ⟨c', p'⟩ h
  have h1 : c = c' := congrArg (fun g : GSem nD τ sig => g.1.1) h
  have h2 : semOf p = semOf p' := congrArg Prod.snd h
  have h3 : p = p' := Option.some.inj ((partOf_semOf p).symm.trans ((congrArg partOf h2).trans (partOf_semOf p')))
  rw [h1, h3]

/-! ## The schedule -/

/-- A block's credit. -/
def N : ℕ := (sSlot 0 (sInb 0)).view.dmaCredit
/-- A block's credit is positive. -/
theorem N_pos : 0 < N := View.dmaCredit_pos _ (by decide)

/-- Device `c`'s landing slot for the device `s`, holding `f`. -/
def rPts (c s : Dev nD) (f : S4x1024x512.Idx → Elt F .bf16) : sProp 𝕄 := ((c : Thread nD τ).loc cc0_scratch4) ↦[rSet s]{fullShare} f
/-- Device `c`'s send slot `i`, holding `f`. -/
def sPts (c : Dev nD) (i : Fin 3) (f : S3x1024x512.Idx → Elt F .bf16) : sProp 𝕄 := ((c : Thread nD τ).loc cc0_scratch3) ↦[sSet i.val (sInb i)]{fullShare} f

/-- The duties of a part. -/
def dutiesOf (c : Dev nD) : Part → Finset (Fin 3)
  | .bar => Finset.univ
  | .exit => Finset.univ
  | .send _ => {0}
  | .recv s => if s = c then ∅ else {0}
/-- The amount of each duty of a part. -/
def amountOf : Part → ℕ
  | .bar => 1
  | .exit => 1
  | .send _ => N
  | .recv _ => N
/-- What each duty of a part hands over. -/
def payOf (c : Dev nD) (j : Fin 3) : Part → sProp 𝕄
  | .bar => iprop(∃ f, rPts (back j c) c f)
  | .exit => iprop(emp)
  | .send i => iprop(∃ f, sPts c i f)
  | .recv s => rPts c s (rBuf (msg m s c))

/-- The schedule: one round, of the duties of the part that the cell plays. -/
def sched : Rounds.Schedule (GSem nD τ sig) (Fin 3) 𝕄 where
  duties g r := if r = 0 ∧ g.1.2 = .tc then (partOf g.2).elim ∅ (dutiesOf g.1.1) else ∅
  unitless _ := False
  amount g _ _ := (partOf g.2).elim 1 amountOf
  payload g _ j := (partOf g.2).elim iprop(emp) (payOf m g.1.1 j)
  amount_pos g _ _ _ := by
    cases partOf g.2 with
    | none => exact Nat.one_pos
    | some p => cases p with
      | bar => exact Nat.one_pos
      | exit => exact Nat.one_pos
      | send i => exact N_pos
      | recv s => exact N_pos

/-- What a duty hands over may be kept in an invariant. -/
instance sched_storable (g : GSem nD τ sig) (r : ℕ) (j : Fin 3) : BI.Storable (upEmb : UEmb _ 𝕄) ((sched m).payload g r j) := by
  show BI.Storable upEmb ((partOf g.2).elim iprop(emp) (payOf m g.1.1 j))
  cases partOf g.2 with
  | none => show BI.Storable upEmb iprop(emp); infer_instance
  | some p => cases p with
    | bar => show BI.Storable upEmb iprop(∃ f, rPts (back j g.1.1) g.1.1 f); unfold rPts; infer_instance
    | exit => show BI.Storable upEmb iprop(emp); infer_instance
    | send i => show BI.Storable upEmb iprop(∃ f, sPts g.1.1 i f); unfold sPts; infer_instance
    | recv s => show BI.Storable upEmb (rPts g.1.1 s (rBuf (msg m s g.1.1))); unfold rPts; infer_instance

/-- The duties of a cell in its one round, -/
theorem duties_cell (c : Dev nD) (p : Part) : (sched m).duties (cell c p) 0 = dutiesOf c p := by
  show (if (0 : ℕ) = 0 ∧ (cell c p).1.2 = .tc then (partOf (semOf p)).elim ∅ (dutiesOf c) else ∅) = _
  rw [if_pos ⟨rfl, rfl⟩, partOf_semOf]; rfl
/-- none in a later round, -/
theorem duties_later (g : GSem nD τ sig) (r : ℕ) (hr : 1 ≤ r) : (sched m).duties g r = ∅ := if_neg fun h => by omega
/-- and none ever where a device would receive from itself. -/
theorem duties_self (c : Dev nD) (r : ℕ) : (sched m).duties (cell c (.recv c)) r = ∅ := by
  rcases Nat.eq_zero_or_pos r with rfl | h
  · rw [duties_cell]; exact if_pos rfl
  · exact duties_later m _ r h
/-- The amount of a cell's duty. -/
theorem amount_cell (c : Dev nD) (p : Part) (r : ℕ) (j : Fin 3) : (sched m).amount (cell c p) r j = amountOf p := by
  show (partOf (semOf p)).elim 1 amountOf = _
  rw [partOf_semOf]; rfl
/-- What a cell's duty hands over. -/
theorem payload_cell (c : Dev nD) (p : Part) (r : ℕ) (j : Fin 3) : (sched m).payload (cell c p) r j = payOf m c j p := by
  show (partOf (semOf p)).elim iprop(emp) (payOf m c j) = _
  rw [partOf_semOf]; rfl

/-- What a cell's round brings in all: -/
theorem expect_cell (c : Dev nD) (p : Part) : (sched m).expect (cell c p) 0 = (dutiesOf c p).card * amountOf p := by
  unfold Schedule.expect Schedule.amountOf
  rw [duties_cell, Finset.sum_congr rfl fun j _ => amount_cell m c p 0 j, Finset.sum_const, smul_eq_mul]
/-- three on the barrier, -/
theorem expect_bar (c : Dev nD) : (sched m).expect (cell c .bar) 0 = 3 := expect_cell m c .bar
/-- three on the exit semaphore, -/
theorem expect_exit (c : Dev nD) : (sched m).expect (cell c .exit) 0 = 3 := expect_cell m c .exit
/-- one block's credit on a send semaphore -/
theorem expect_send (c : Dev nD) (i : Fin 3) : (sched m).expect (cell c (.send i)) 0 = N := (expect_cell m c (.send i)).trans (Nat.one_mul N)
/-- and on a receive semaphore. -/
theorem expect_recv (c s : Dev nD) (h : s ≠ c) : (sched m).expect (cell c (.recv s)) 0 = N :=
  (expect_cell m c (.recv s)).trans (by
    rw [show dutiesOf c (.recv s) = {0} from if_neg h]; exact Nat.one_mul N)

/-- A separating conjunction over three, written out, -/
theorem sep3 (Φ : Fin 3 → sProp 𝕄) : bigSep Finset.univ Φ = iprop(Φ 0 ∗ Φ 1 ∗ Φ 2) :=
  bigSep_univ_eq_bigSepL [0, 1, 2] (by decide) (by decide) Φ
/-- over four, -/
theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- and over the parts. -/
theorem sepParts (Φ : Part → sProp 𝕄) : bigSep Finset.univ Φ
    = iprop(Φ .bar ∗ Φ .exit ∗ (Φ (.send 0) ∗ Φ (.send 1) ∗ Φ (.send 2)) ∗ (Φ (.recv 0) ∗ Φ (.recv 1) ∗ Φ (.recv 2) ∗ Φ (.recv 3))) := by
  refine (bigSep_univ_eq_bigSepL parts (by decide) (by decide) Φ).trans ?_
  have a (P Q R : sProp 𝕄) : iprop((P ∗ Q) ∗ R) = iprop(P ∗ Q ∗ R) := Entails.antisymm BI.sep_assoc BI.sep_assoc'
  rw [a, a]; rfl

/-! ## What a device owes -/

/-- One unit to the exit cell of the peer `j + 1` places on. -/
abbrev dueExit (j : Fin 3) (c : Dev nD) : CellTallies nD τ sig Unit := tallyAt (cell (hop j c) .exit) () 1
/-- A block's credit to that peer's receive cell. -/
abbrev dueRecv (j : Fin 3) (c : Dev nD) : CellTallies nD τ sig Unit := tallyAt (cell (hop j c) (.recv c)) () N
/-- One unit to that peer's barrier cell. -/
abbrev dueBar (j : Fin 3) (c : Dev nD) : CellTallies nD τ sig Unit := tallyAt (cell (hop j c) .bar) () 1

/-- After the sends: the exit units. -/
def owesE (c : Dev nD) : CellTallies nD τ sig Unit := dueExit 2 c + dueExit 1 c + dueExit 0 c
/-- After the barrier: the blocks too. -/
def owesR (c : Dev nD) : CellTallies nD τ sig Unit := owesE c + dueRecv 2 c + dueRecv 0 c + dueRecv 1 c
/-- At launch: the barrier units too. -/
def owesB (c : Dev nD) : CellTallies nD τ sig Unit := owesR c + dueBar 2 c + dueBar 1 c + dueBar 0 c

/-! ## The levels -/

/-- Each cell of a TensorCore has the one index. -/
def L (g : GSem nD τ sig) : Finset Unit := if g.1.2 = .tc then {()} else ∅
/-- A part's level. -/
def lvOf : Part → ℕ
  | .bar => 1
  | .exit => 3
  | .send _ => 0
  | .recv _ => 2
/-- A cell's level. -/
def lv (g : GSem nD τ sig) (_ : Unit) : ℕ := (partOf g.2).elim 0 lvOf

/-- A core's cell has one level, -/
theorem L_tc (c : Dev nD) (sm : SemLoc sig) : L ((c : Thread nD τ), sm) = {()} := if_pos rfl
/-- another thread's none. -/
theorem L_of_ne (g : GSem nD τ sig) (h : g.1.2 ≠ .tc) : L g = ∅ := if_neg h
/-- The level of a part's cell. -/
theorem lv_cell (c : Dev nD) (p : Part) (u : Unit) : lv (cell c p) u = lvOf p := by
  show (partOf (semOf p)).elim 0 lvOf = _
  rw [partOf_semOf]; rfl

/-- Every cell owed is a TensorCore's, above level `n`. -/
def Above (n : ℕ) (O : CellTallies nD τ sig Unit) : Prop := ∀ g u, 0 < O g u → g.1.2 = .tc ∧ n < lv g u

/-- Owing nothing is above every level. -/
theorem above_zero (n : ℕ) : Above n 0 := fun g u h => absurd h (Nat.lt_irrefl 0)
/-- Two debts above a level are together above it. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with e | e
  · exact h' g u (by omega)
  · exact h g u e
/-- A debt to a cell is above what the cell's level is above. -/
theorem above_tally {n : ℕ} (c : Dev nD) (p : Part) (k : ℕ) (h : n < lvOf p) : Above n (tallyAt (cell c p) () k) := fun g u hg => by
  rw [tallyAt_apply] at hg
  by_cases e : g = cell c p ∧ u = ()
  · rw [e.1]; exact ⟨rfl, by rw [lv_cell]; exact h⟩
  · rw [if_neg e] at hg; exact absurd hg (Nat.lt_irrefl 0)
/-- Above a level is above every lower one. -/
theorem above_mono {n n' : ℕ} (hn : n ≤ n') {O : CellTallies nD τ sig Unit} (h : Above n' O) : Above n O :=
  fun g u hg => ⟨(h g u hg).1, lt_of_le_of_lt hn (h g u hg).2⟩

/-- The exit is above 2, -/
theorem lt_exit : 2 < lvOf .exit := by decide
/-- a block's arrival above 1, -/
theorem lt_recv (s : Dev nD) : 1 < lvOf (.recv s) := Nat.one_lt_two
/-- the barrier above 0. -/
theorem lt_bar : 0 < lvOf .bar := by decide

/-- What is owed after the blocks is above 2, -/
theorem above_owesE (c : Dev nD) : Above 2 (owesE c) :=
  above_add (above_add (above_tally _ _ _ lt_exit) (above_tally _ _ _ lt_exit)) (above_tally _ _ _ lt_exit)
/-- after the barrier above 1, -/
theorem above_owesR (c : Dev nD) : Above 1 (owesR c) :=
  above_add (above_add (above_add (above_mono (by decide) (above_owesE c)) (above_tally _ _ _ (lt_recv c))) (above_tally _ _ _ (lt_recv c)))
    (above_tally _ _ _ (lt_recv c))
/-- and at launch above 0. -/
theorem above_owesB (c : Dev nD) : Above 0 (owesB c) :=
  above_add (above_add (above_add (above_mono (by decide) (above_owesR c)) (above_tally _ _ _ lt_bar)) (above_tally _ _ _ lt_bar))
    (above_tally _ _ _ lt_bar)

/-- A device may wait on a cell at level `n` or below while it owes only above `n`. -/
theorem mayWait {n : ℕ} {O : CellTallies nD τ sig Unit} (h : Above n O) (c : Dev nD) (sm : SemLoc sig) (hs : lv ((c : Thread nD τ), sm) () ≤ n) :
    (levAts L lv : sProp 𝕄) ⊢ MayWait (c : Thread nD τ) sm () O :=
  MayOwe.of_cut (L := L) (lev := lv) n
    (fun q hq => by rw [Finset.mem_singleton.mp hq, L_tc]; exact Finset.mem_singleton_self _)
    (fun g u hg => by
      obtain ⟨⟨d, k⟩, sm'⟩ := g
      have := (h _ u hg).1; dsimp only at this; subst this
      rw [show L ((d, Proc.tc), sm') = {()} from if_pos rfl]; exact Finset.mem_singleton_self _)
    (fun q hq => by rw [Finset.mem_singleton.mp hq]; exact hs)
    (fun g u hg => (h g u hg).2)

end Cert.Exchange

end
-- ==== Proof.Steps.lean ====
/-
# Steps: one rule for each kind of effect of the kernel, at the contents of the exchange

Each theorem has the shape: what the effect needs, then the continuation at what it leaves, give the run of the effect
followed by the rest. Offsets, targets and semaphores that the kernel computes are variables here, with an equation to
their closed form.
-/
module

public import proofs.«01_k».proof.Proof.Schedule

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocalO)

variable {F : FTy → Type} [FloatOps F]

local notation "𝕄" => MT nD τ sig Unit (Elt F) ℕ UU ℕ

/-- No variants: the kernel has no cyclic wait. -/
abbrev 𝒱₀ : Variants := Variants.none
/-- The programs of a device. -/
abbrev TcProg (F : FTy → Type) [FloatOps F] (α : Type) : Type 1 := Prog (TpuEff nD τ sig (Elt F) Λ₀ .tc) α

/-- Device `c`'s run of `p` ends in `Q`. -/
abbrev run {α : Type} (c : Dev nD) (p : TcProg F α) (Q : α → sProp 𝕄) : sProp 𝕄 :=
  wp frame (wpE (defs₀ (F := F)) 𝒱₀ (c : Thread nD τ) none) Set.univ p Q

variable (m : (ℓ : Loc nD τ sig) → Buf (Elt F) ℓ)

/-! ## What is held -/

/-- The input `x`'s rows. -/
def xPts (c : Dev nD) : sProp 𝕄 := ((c : Thread nD τ).loc main_arg0) ↦{fullShare} inX m c
/-- The copy of them in fast memory, holding `f`. -/
def xvPts (c : Dev nD) (f : S1024x4096.Idx → Elt F .f32) : sProp 𝕄 := ((c : Thread nD τ).loc cc0_scratch0) ↦{fullShare} f
/-- The third `i` of the right to read the input `w`. -/
def wTok (c : Dev nD) (i : Fin 3) : sProp 𝕄 := ((c : Thread nD τ).loc main_arg1) ↦{Transfers.shareTok fullShare 3 i} inW m c
/-- Slot `i` of the row bands, holding `f`. -/
def wPts (c : Dev nD) (i : Fin 3) (f : S3x512x2048.Idx → Elt F .f32) : sProp 𝕄 := ((c : Thread nD τ).loc cc0_scratch1) ↦[wSet i.val (wInb i)]{fullShare} f
/-- The sum over the bands so far. -/
def aPts (c : Dev nD) (f : S1024x2048.Idx → Elt F .f32) : sProp 𝕄 := ((c : Thread nD τ).loc cc0_scratch2) ↦{fullShare} f
/-- The result's columns in fast memory. -/
def oPts (c : Dev nD) (f : S4096x512.Idx → Elt F .f32) : sProp 𝕄 := ((c : Thread nD τ).loc cc0_stg0_0) ↦{fullShare} f
/-- What device `c` owes, at whatever waits it has pending. -/
def ow (c : Dev nD) (O : CellTallies nD τ sig Unit) : sProp 𝕄 := iprop(∃ W, owes (c : Thread nD τ) O W)
/-- Device `c`'s place in the round of its own cell, before it. -/
def pos (c : Dev nD) (p : Part) : sProp 𝕄 := atPos EB (cell c p) 0 ∅ 0
/-- The right to pay duty `j` of a cell. -/
def tok (c : Dev nD) (p : Part) (j : Fin 3) : sProp 𝕄 := dutyTok EB (cell c p) 0 j
/-- A part's semaphore, at zero and in no protocol. -/
def free (c : Dev nD) (p : Part) : sProp 𝕄 := semVal (cell c p) 0
/-- The semaphore of the copies into slot `i` of the row bands, at zero. -/
def wFree (c : Dev nD) (i : Fin 3) : sProp 𝕄 := semVal ((c : Thread nD τ), .dma (wS i.val (inb3 i))) 0
/-- The semaphore of the copy of `x`, at zero. -/
def xFree (c : Dev nD) : sProp 𝕄 := semVal ((c : Thread nD τ), .dma xS) 0

variable (K : Dev nD × Part → ℕ)

/-- Every shared cell's protocol, that its round has begun, and the levels: all of it lasting. -/
def world : sProp 𝕄 :=
  iprop((bigSep Finset.univ fun cp : Dev nD × Part => cellInv EB (sched m) (K cp) (cell cp.1 cp.2))
    ∗ (bigSep Finset.univ fun cp : Dev nD × Part => reached EB (cell cp.1 cp.2) 0) ∗ levAts L lv)

/-- What all know is never used up. -/
instance world_persistent : BI.Persistent (world m K) := by unfold world; infer_instance

/-- One cell's invariant from all, -/
theorem inv_of_all (c : Dev nD) (p : Part) : (bigSep Finset.univ fun cp : Dev nD × Part => (cellInv EB (sched m) (K cp) (cell cp.1 cp.2) : sProp 𝕄))
    ⊢ cellInv EB (sched m) (K (c, p)) (cell c p) := bigSep_elim (Finset.mem_univ (c, p))
/-- and its first round. -/
theorem reached_of_all (c : Dev nD) (p : Part) : (bigSep Finset.univ fun cp : Dev nD × Part => (reached EB (cell cp.1 cp.2) 0 : sProp 𝕄))
    ⊢ reached EB (cell c p) 0 := bigSep_elim (Finset.mem_univ (c, p))
/-- All know each cell's invariant, -/
theorem world_inv (c : Dev nD) (p : Part) : world m K ⊢ cellInv EB (sched m) (K (c, p)) (cell c p) := by
  unfold world; iintro ⟨H, -, -⟩; iapply (inv_of_all m K c p) $$ H
/-- that its round has begun, -/
theorem world_reached (c : Dev nD) (p : Part) : world m K ⊢ reached EB (cell c p) 0 := by
  unfold world; iintro ⟨-, H, -⟩; iapply (reached_of_all c p) $$ H
/-- and the levels. -/
theorem world_lev : world m K ⊢ levAts L lv := by unfold world; iintro ⟨-, -, H⟩; iexact H

variable (c : Dev nD) {β : Type}

/-! ## The copies within the device -/

/-- The credit of the copy of `x`. -/
def NX : ℕ := xvM.view.dmaCredit
/-- The credit of the copy of `x` is positive. -/
theorem NX_pos : 0 < NX := View.dmaCredit_pos _ (by decide)
/-- The credit of the copy of a row band. -/
def NW : ℕ := (wSlot 0 (wInb 0)).view.dmaCredit
/-- So is that of a band. -/
theorem NW_pos : 0 < NW := View.dmaCredit_pos _ (by decide)

/-- The copy of `x` under way. -/
def xFlight : sProp 𝕄 := Flight countersEmb (c : Thread nD τ) (.dma xS) () NX iprop(xvPts c (inX m c) ∗ xPts m c)

/-- Starting the copy of `x` puts the buffers under way. -/
theorem start_x {hs} {hd} {ht} {k : PUnit → TcProg F β} {Q : β → sProp 𝕄} (f : S1024x4096.Idx → Elt F .f32) :
    xPts m c ⊢ iprop(xvPts c f -∗ xFree c -∗ (xFlight m c -∗ run c (k ⟨⟩) Q)
      -∗ run c (.op (.enqueueDma xM (.here xvM) (.dma xS) hs hd ht) k) Q) := by
  unfold xPts xvPts xFree xFlight
  iintro Hx Hv Hz Hk
  iapply (wp_dmaLocal countersEmb 𝒱₀ (c : Thread nD τ) none (src := xM) (dst := xvM) (q := fullShare) (fs := inX m c) (fd := f)
    (Sd := Finset.univ) () NX rfl NX_pos (Finset.subset_univ _)) $$ [Hx Hv Hz]
  · isplitl [Hx]; · rw [show xM.view.set = Finset.univ from View.set_whole _]; iexact Hx
    isplitl [Hv] <;> iassumption
  iintro H
  iapply Hk
  rw [show xM.view.set = Finset.univ from View.set_whole _]
  rw [show ReadAs.same.apply (xM.view.read (Elt F) (inX m c)) = inX m c from rfl]
  rw [show xvM.view.write (Elt F) f (inX m c) Finset.univ = inX m c from View.write_whole_univ cc0_scratch0 f _]
  iexact H

/-- Its wait gives them back, the rows arrived. -/
theorem wait_x {hs} {hd} {k : PUnit → TcProg F β} {Q : β → sProp 𝕄} {O : CellTallies nD τ sig Unit} (hO : Above 0 O) :
    world m K ⊢ iprop(xFlight m c -∗ ow c O -∗ ((xvPts c (inX m c) ∗ xPts m c ∗ xFree c ∗ ow c O) -∗ run c (k ⟨⟩) Q)
      -∗ run c (.op (.waitDma2 xS xM xvM hs hd) k) Q) := by
  unfold xFlight ow xFree
  iintro #Hw Hf ⟨%W, HO⟩ Hk
  iapply (wp_waitLocalO countersEmb 𝒱₀ (c : Thread nD τ) none (srcw := xM) (dstw := xvM) () (N := NX) rfl (O := O) (W := W)) $$ [Hf HO]
  · isplitl [Hf]; · iexact Hf
    isplitl [HO]; · iexact HO
    iapply (mayWait hO c (.dma xS) (Nat.le_of_eq rfl)); iapply (world_lev m K) $$ Hw
  iintro ⟨⟨Hv, Hx⟩, Hz, HO⟩
  iapply Hk
  isplitl [Hv]; · iexact Hv
  isplitl [Hx]; · iexact Hx
  isplitl [Hz]; · iexact Hz
  iexists _; iexact HO

/-- The copy of the row band at `o` into slot `i` under way, beside what its read leaves free. -/
def wFlight (i : Fin 3) (o : ℕ) (ho : o + 512 ≤ 4096) (hb : ∀ a, (![o, 0] : Fin 2 → ℕ) a + S512x2048.size a ≤ S4096x2048.size a) : sProp 𝕄 :=
  iprop(Flight countersEmb (c : Thread nD τ) (.dma (wS i.val (inb3 i))) () NW
      iprop(wPts c i (wBuf (inW m c) o ho) ∗ (((c : Thread nD τ).loc main_arg1) ↦[(band o hb).view.set]{Transfers.shareTok fullShare 3 i} inW m c))
    ∗ (((c : Thread nD τ).loc main_arg1) ↦[Finset.univ \ (band o hb).view.set]{Transfers.shareTok fullShare 3 i} inW m c))

/-- Starting the copy of a band puts its slot under way. -/
theorem start_band (i : Fin 3) (i' : ℕ) (hi : i' = i.val) (o : ℕ) (ho : o + 512 ≤ 4096) {hb} {hw} {hm} {hs} {hd} {ht} {k : PUnit → TcProg F β} {Q : β → sProp 𝕄} :
    wTok m c i ⊢ iprop((∃ f, wPts c i f) -∗ wFree c i -∗ (wFlight m c i o ho hb -∗ run c (k ⟨⟩) Q)
      -∗ run c (.op (.enqueueDma (band o hb) (.here (wSlot i' hw)) (.dma (wS i' hm)) hs hd ht) k) Q) := by
  subst hi
  unfold wTok wFree wFlight
  iintro Ht ⟨%f, Hp⟩ Hz Hk
  ihave Hs := (pointsTo_split_subset (Finset.subset_univ (band o hb).view.set)).1 $$ Ht
  icases Hs with ⟨Hb, Hr⟩
  unfold wPts
  iapply (wp_dmaLocal countersEmb 𝒱₀ (c : Thread nD τ) none (src := band o hb) (dst := wSlot i.val hw) (fs := inW m c) (fd := f)
    (Sd := wSet i.val hw) () NW rfl NW_pos (Finset.Subset.refl _)) $$ [Hb Hp Hz]
  · isplitl [Hb]; · iexact Hb
    isplitl [Hp] <;> iassumption
  iintro H
  iapply Hk
  isplitl [H]
  · rw [show ReadAs.same.apply ((band o hb).view.read (Elt F) (inW m c)) = (band o hb).view.read (Elt F) (inW m c) from rfl]
    rw [pointsTo_congr (fun z hz => wLand (inW m c) i.val hw o hb ho f z hz)]
    iexact H
  iexact Hr

/-- Its wait gives the slot back, the band arrived. -/
theorem wait_band (i : Fin 3) (i' : ℕ) (hi : i' = i.val) (o : ℕ) (ho : o + 512 ≤ 4096) {hb} {hw} {hm} {hs} {hd} {k : PUnit → TcProg F β} {Q : β → sProp 𝕄} {O : CellTallies nD τ sig Unit}
    (hO : Above 0 O) :
    world m K ⊢ iprop(wFlight m c i o ho hb -∗ ow c O
      -∗ ((wPts c i (wBuf (inW m c) o ho) ∗ wTok m c i ∗ wFree c i ∗ ow c O) -∗ run c (k ⟨⟩) Q)
      -∗ run c (.op (.waitDma2 (wS i' hm) (band o hb) (wSlot i' hw) hs hd) k) Q) := by
  subst hi
  unfold wFlight ow wFree wTok
  iintro #Hw ⟨Hf, Hr⟩ ⟨%W, HO⟩ Hk
  iapply (wp_waitLocalO countersEmb 𝒱₀ (c : Thread nD τ) none (srcw := band o hb) (dstw := wSlot i.val hw) () (N := NW) rfl (O := O) (W := W)) $$ [Hf HO]
  · isplitl [Hf]; · iexact Hf
    isplitl [HO]; · iexact HO
    iapply (mayWait hO c (.dma (wS i.val hm)) (by
      have e : ∀ j : Fin 3, partOf (.dma (wS j.val (inb3 j))) = none := by decide +kernel
      show (partOf _).elim 0 lvOf ≤ 0
      rw [show partOf (.dma (wS i.val hm)) = none from e i]; exact Nat.le_refl 0))
    iapply (world_lev m K) $$ Hw
  iintro ⟨⟨Hp, Hb⟩, Hz, HO⟩
  iapply Hk
  isplitl [Hp]; · iexact Hp
  isplitl [Hb Hr]
  · iapply (pointsTo_split_subset (Finset.subset_univ (band o hb).view.set)).2
    isplitl [Hb] <;> iassumption
  isplitl [Hz]; · iexact Hz
  iexists _; iexact HO

/-! ## Signals to peers, waits on shared cells, sends -/

/-- A signal to a peer pays a duty of that peer's cell with what the duty hands over. -/
theorem signal (p : Part) (j : Fin 3) {sm : Sem sig} (hp : semOf p = .reg sm) (hj : j ∈ dutiesOf (hop j c) p) (h1 : amountOf p = 1) {k' : ℤ} (hk' : k' = 1) (n : Dev nD) (hn : n = hop j c)
    {k : PUnit → TcProg F β} {Q : β → sProp 𝕄} (O : CellTallies nD τ sig Unit) {P : sProp 𝕄} (hP : P ⊢ payOf m (hop j c) j p) :
    world m K ⊢ iprop(ow c (O + tallyAt (cell (hop j c) p) () 1) -∗ tok (hop j c) p j -∗ P -∗ (ow c O -∗ run c (k ⟨⟩) Q)
      -∗ run c (.op (.semSignal (n : Thread nD τ) sm k') k) Q) := by
  subst hn; subst hk'
  have hcell : cell (hop j c) p = ((hop j c : Thread nD τ), .reg sm) := by show (_, semOf p) = _; rw [hp]
  unfold ow tok
  iintro #Hw ⟨%W, HO⟩ Ht HP Hk
  ihave #Hi := (world_inv m K (hop j c) p) $$ Hw
  ihave #Hr := (world_reached m K (hop j c) p) $$ Hw
  have hd := duties_cell m (hop j c) p
  have ha := amount_cell m (hop j c) p 0 j
  have hpay := payload_cell m (hop j c) p 0 j
  rw [hcell] at hd ha hpay ⊢
  iapply (Rounds.wp_signal 𝒱₀ EB (sched m) (c : Thread nD τ) none (dst := (hop j c : Thread nD τ)) (κ := K (hop j c, p)) (d := j)
    (by rw [hd]; exact hj) (ha.trans h1) () O rfl (W := W)) $$ [HO Ht HP]
  · isplitr; · iexact Hi
    isplitl [HO]; · iexact HO
    isplitl [Ht]; · iexact Ht
    isplitl [HP]; · rw [hpay]; iapply hP; iexact HP
    iexact Hr
  iintro HO
  iapply Hk
  iexists W; iexact HO

/-- The duties still open on a fresh cell are all of its own. -/
theorem rest_cell (p : Part) : bigSep ((sched m).duties (cell c p) 0 \ ∅) (fun j => (sched m).payload (cell c p) 0 j) = bigSep (dutiesOf c p) fun j => payOf m c j p := by
  rw [Finset.sdiff_empty, duties_cell]
  exact bigSep_congr fun j _ => payload_cell m c p 0 j

/-- A wait for all that a cell expects: the cell closes, and what its duties hand over is the device's. -/
theorem wait_cell (p : Part) {k' : ℕ} {w : TpuEff nD τ sig (Elt F) Λ₀ .tc PUnit}
    (hw : ∀ Q' : PUnit → sProp 𝕄, wpE (defs₀ (F := F)) 𝒱₀ (c : Thread nD τ) none Set.univ w Q' = waitSpec (c : Thread nD τ) Set.univ (semOf p) k' Q')
    (hk : k' = (sched m).expect (cell c p) 0) {k : PUnit → TcProg F β} {Q : β → sProp 𝕄} {O : CellTallies nD τ sig Unit} (hO : Above (lvOf p) O) :
    world m K ⊢ iprop(pos c p -∗ cred (tallyAt (cell c p) () k') -∗ ow c O
      -∗ ((ow c O ∗ free c p ∗ bigSep (dutiesOf c p) fun j => payOf m c j p) -∗ run c (k ⟨⟩) Q)
      -∗ run c (.op w k) Q) := by
  unfold ow pos free
  iintro #Hw Hat Hc ⟨%W, HO⟩ Hk
  ihave #Hi := (world_inv m K c p) $$ Hw
  iapply (Rounds.wp_wait_rest_token 𝒱₀ EB (sched m) (c : Thread nD τ) none (κ := K (c, p)) hw (Set.mem_univ _) () (O := O) (W := W) (R := 0) (m := 0) (T := ∅)
    ((Nat.zero_add _).trans hk)) $$ [Hat Hc HO]
  · isplitr; · iexact Hi
    isplitl [Hc]; · iexact Hc
    isplitl [HO]; · iexact HO
    isplitr
    · iapply (mayWait hO c (semOf p) (Nat.le_of_eq (lv_cell c p ()))); iapply (world_lev m K) $$ Hw
    iexact Hat
  iintro ⟨HO, Hat, -, Hp⟩
  imod (Rounds.cell_close EB (sched m) (Set.mem_univ (K (c, p))) (fun h => h) (R := 0 + 1) (duties_later m (cell c p))) $$ [Hat] with Hz
  · isplitr; · iexact Hi
    iexact Hat
  iapply Hk
  isplitl [HO]; · iexists _; iexact HO
  isplitl [Hz]; · iexact Hz
  ihave Hp := (Entails.of_eq (rest_cell m c p)) $$ Hp
  iexact Hp

/-- A remote copy pays the peer's receive duty with the block landed, and its own send duty with the slot. -/
theorem send (j i : Fin 3) (n : Dev nD) (hn : n = hop j c) (i' : ℕ) (hi : i' = i.val) {h1} {h2} (o3 : Fin 1 → ℕ) {h3} (e3 : o3 = ![c.val]) (o4 : Fin 3 → ℕ) {h4}
    (e4 : o4 = ![c.val, 0, 0]) {hsc} {hs} {hd} {ht} {k : PUnit → TcProg F β} {Q : β → sProp 𝕄} (O : CellTallies nD τ sig Unit) :
    world m K ⊢ iprop(sPts c i (sBuf (msg m c (hop j c))) -∗ (∃ f, rPts (hop j c) c f) -∗ ow c (O + dueRecv j c) -∗ tok c (.send i) 0 -∗ tok (hop j c) (.recv c) 0
        -∗ ((cred (tallyAt (cell c (.send i)) () N) ∗ ow c O) -∗ run c (k ⟨⟩) Q)
      -∗ run c (.op (.enqueueDma (sSlot i' h1) (.remote (Dev.tc n : Thread nD τ) (rSlot o4 h4) (.dma (sS i' h2)) hsc) (.dma (rSo o3 h3)) hs hd ht) k) Q) := by
  subst hn; subst hi; subst e3; subst e4
  unfold ow tok sPts
  iintro #Hw Hs ⟨%f, Hd⟩ ⟨%W, HO⟩ Ht1 Ht2 Hk
  ihave #Hi1 := (world_inv m K c (.send i)) $$ Hw
  ihave #Hr1 := (world_reached m K c (.send i)) $$ Hw
  ihave #Hi2 := (world_inv m K (hop j c) (.recv c)) $$ Hw
  ihave #Hr2 := (world_reached m K (hop j c) (.recv c)) $$ Hw
  iapply (Rounds.wp_send_pointsTo 𝒱₀ EB (sched m) (c : Thread nD τ) none (c' := (hop j c : Thread nD τ)) (src := sSlot i.val h1) (dst := rSlot ![c.val, 0, 0] h4)
    (q := fullShare) (fs := sBuf (msg m c (hop j c)))
    (κ₁ := K (c, .send i)) (κ₂ := K (hop j c, .recv c)) (r₁ := 0) (r₂ := 0) (d₁ := 0) (d₂ := 0) (fd := f)
    (by rw [duties_cell]; exact Finset.mem_singleton_self _)
    (by
      rw [duties_cell]
      rw [show dutiesOf (hop j c) (.recv c) = {0} from if_neg (hop_ne j c).symm]; exact Finset.mem_singleton_self _)
    () () N rfl (amount_cell m c (.send i) 0 0) (amount_cell m (hop j c) (.recv c) 0 0) O rfl (W := W)
    (by
      refine BI.Entails.trans ?_ (Entails.of_eq (payload_cell m c (.send i) 0 0).symm)
      show _ ⊢ iprop(∃ f, sPts c i f)
      unfold sPts; iintro H; iexists _; iexact H)
    (by
      refine BI.Entails.trans ?_ (Entails.of_eq (payload_cell m (hop j c) (.recv c) 0 0).symm)
      show _ ⊢ rPts (hop j c) c (rBuf (msg m c (hop j c)))
      unfold rPts
      exact Entails.of_eq (pointsTo_congr fun z hz => rLand (msg m c (hop j c)) i.val h1 c h4 f z hz))) $$ [Hs Hd HO Ht1 Ht2]
  · isplitr; · iexact Hi1
    isplitr; · iexact Hi2
    isplitl [Hs]; · iexact Hs
    isplitl [Hd]; · unfold rPts; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

end Cert.Exchange

end
-- ==== Proof.Moves.lean ====
/-
# Moves: the waits of the kernel on its shared cells, and its loads and stores
-/
module

public import proofs.«01_k».proof.Proof.Steps

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Part → ℕ) (c : Dev nD) {β : Type}

/-! ## Waits on shared cells -/

/-- The wait for all peers at the entry: each peer's landing slot for this device is its own to write. -/
theorem wait_bar {k' : ℤ} (hk : k' = 3) {k : PUnit → TcProg F β} {Q : β → sProp 𝕄} {O : CellTallies nD τ sig Unit} (hO : Above 1 O) :
    world m K ⊢ iprop(pos c .bar -∗ cred (tallyAt (cell c .bar) () 3) -∗ ow c O
      -∗ ((ow c O ∗ free c .bar ∗ (∃ f, rPts (hop 0 c) c f) ∗ (∃ f, rPts (hop 1 c) c f) ∗ (∃ f, rPts (hop 2 c) c f)) -∗ run c (k ⟨⟩) Q)
      -∗ run c (.op (.semWait barS k') k) Q) := by
  subst hk
  iintro #Hw Hat Hc HO Hk
  iapply (wait_cell m K c .bar (wpE_semWait_eq 𝒱₀ (c : Thread nD τ) none Set.univ) (expect_bar m c).symm hO) $$ Hw Hat Hc HO
  iintro ⟨HO, Hz, Hp⟩
  ihave Hp := (Entails.of_eq (show (bigSep (dutiesOf c .bar) fun j => payOf m c j .bar) = _ from sep3 _)) $$ Hp
  unfold payOf
  icases Hp with ⟨H0, H1, H2⟩
  iapply Hk
  isplitl [HO]; · iexact HO
  isplitl [Hz]; · iexact Hz
  rw [show hop 0 c = back 2 c from hop_opp 2 c, show hop 1 c = back 1 c from hop_opp 1 c, show hop 2 c = back 0 c from hop_opp 0 c]
  isplitl [H2]; · iexact H2
  isplitl [H1] <;> iassumption

/-- The wait for all peers at the exit. -/
theorem wait_exit {k' : ℤ} (hk : k' = 3) {k : PUnit → TcProg F β} {Q : β → sProp 𝕄} {O : CellTallies nD τ sig Unit} (hO : Above 3 O) :
    world m K ⊢ iprop(pos c .exit -∗ cred (tallyAt (cell c .exit) () 3) -∗ ow c O
      -∗ ((ow c O ∗ free c .exit) -∗ run c (k ⟨⟩) Q)
      -∗ run c (.op (.semWait exitS k') k) Q) := by
  subst hk
  iintro #Hw Hat Hc HO Hk
  iapply (wait_cell m K c .exit (wpE_semWait_eq 𝒱₀ (c : Thread nD τ) none Set.univ) (expect_exit m c).symm hO) $$ Hw Hat Hc HO
  iintro ⟨HO, Hz, -⟩
  iapply Hk
  isplitl [HO] <;> iassumption

/-- The wait for the block from the device `s`. -/
theorem wait_recv (s : Dev nD) (hs : s ≠ c) (o6 : Fin 1 → ℕ) {h6} (e6 : o6 = ![s.val]) (o7 : Fin 3 → ℕ) {h7} {i : ℕ} {hi} {hx} {hy}
    {k : PUnit → TcProg F β} {Q : β → sProp 𝕄} {O : CellTallies nD τ sig Unit} (hO : Above 2 O) :
    world m K ⊢ iprop(pos c (.recv s) -∗ cred (tallyAt (cell c (.recv s)) () N) -∗ ow c O
      -∗ ((ow c O ∗ free c (.recv s) ∗ rPts c s (rBuf (msg m s c))) -∗ run c (k ⟨⟩) Q)
      -∗ run c (.op (.waitDma2 (rSo o6 h6) (sSlot i hi) (rSlot o7 h7) hx hy) k) Q) := by
  subst e6
  iintro #Hw Hat Hc HO Hk
  iapply (wait_cell m K c (.recv s) (k' := N) (w := .waitDma2 (recvS s) (sSlot i hi) (rSlot o7 h7) hx hy) (wpE_waitDma2_eq 𝒱₀ (c : Thread nD τ) none Set.univ) (expect_recv m c s hs).symm hO) $$ Hw Hat Hc HO
  iintro ⟨HO, Hz, Hp⟩
  ihave Hp := (Entails.of_eq (show (bigSep (dutiesOf c (.recv s)) fun j => payOf m c j (.recv s)) = rPts c s (rBuf (msg m s c)) by
    rw [show dutiesOf c (.recv s) = {0} from if_neg hs, bigSep_singleton]; rfl)) $$ Hp
  iapply Hk
  isplitl [HO]; · iexact HO
  isplitl [Hz] <;> iassumption

/-- The wait for the send from slot `i` to be done with it. -/
theorem wait_send (i : Fin 3) (i' : ℕ) (hi : i' = i.val) {h1} {h2} (o4 : Fin 3 → ℕ) {h4} {hx} {hy}
    {k : PUnit → TcProg F β} {Q : β → sProp 𝕄} {O : CellTallies nD τ sig Unit} (hO : Above 0 O) :
    world m K ⊢ iprop(pos c (.send i) -∗ cred (tallyAt (cell c (.send i)) () N) -∗ ow c O
      -∗ ((ow c O ∗ free c (.send i) ∗ ∃ f, sPts c i f) -∗ run c (k ⟨⟩) Q)
      -∗ run c (.op (.waitDma2 (sS i' h2) (rSlot o4 h4) (sSlot i' h1) hx hy) k) Q) := by
  subst hi
  iintro #Hw Hat Hc HO Hk
  iapply (wait_cell m K c (.send i) (k' := N) (w := .waitDma2 (sendS i) (rSlot o4 h4) (sSlot i.val h1) hx hy) (wpE_waitDma2_eq 𝒱₀ (c : Thread nD τ) none Set.univ) (expect_send m c i).symm hO) $$ Hw Hat Hc HO
  iintro ⟨HO, Hz, Hp⟩
  ihave Hp := (Entails.of_eq (show (bigSep (dutiesOf c (.send i)) fun j => payOf m c j (.send i)) = iprop(∃ f, sPts c i f) by
    rw [show dutiesOf c (.send i) = {0} from rfl, bigSep_singleton]; rfl)) $$ Hp
  iapply Hk
  isplitl [HO]; · iexact HO
  isplitl [Hz] <;> iassumption

/-! ## Loads and stores -/

/-- The columns of `x` at `o`. -/
theorem load_x (o : ℕ) (ho : o + 512 ≤ 4096) {h} {hl} {k : Vec F S1024x512 .f32 → TcProg F β} {Q : β → sProp 𝕄} :
    xvPts c (inX m c) ⊢ iprop((xvPts c (inX m c) -∗ run c (k (xCols (inX m c) o ho)) Q)
      -∗ run c (.op (.load xvM (Rect.unit (s := S1024x4096) ![0, o] S1024x512.size h).toLoadRect hl) k) Q) := by
  unfold xvPts
  have H := wp_load (Γ := .empty) (Q := Q) (defs := defs₀ (F := F)) 𝒱₀ (c : Thread nD τ) none Set.univ (m := xvM) (r := (Rect.unit (s := S1024x4096) ![0, o] S1024x512.size h).toLoadRect)
    (hl := hl) (k := k) (q := fullShare) (f := inX m c) (S := Finset.univ) (Finset.subset_univ _)
  rw [read_xCols (inX m c) o h ho] at H
  exact H

/-- An access at a slot of bands stays in it, -/
theorem w_sub (i : Fin 3) (p : Fin 3 → ℕ) (sz : Fin 3 → ℕ) (h : ∀ a, p a + sz a ≤ S3x512x2048.size a) (hp : p 0 = i.val) (h1 : sz 0 = 1) :
    (wvM.access (Rect.unit (s := S3x512x2048) p sz h)).set ⊆ wSet i.val (wInb i) := fun z hz => by
  obtain ⟨y, -, rfl⟩ := Finset.mem_map.mp hz
  refine mem_wSet.mpr ?_
  have hy : (y 0).val < 1 := lt_of_lt_of_eq (y 0).isLt h1
  show p 0 + 1 * (y 0).val = i.val
  omega

/-- at a send slot, -/
theorem s_sub (i : Fin 3) (p : Fin 3 → ℕ) (sz : Fin 3 → ℕ) (h : ∀ a, p a + sz a ≤ S3x1024x512.size a) (hp : p 0 = i.val) (h1 : sz 0 = 1) :
    (sbM.access (Rect.unit (s := S3x1024x512) p sz h)).set ⊆ sSet i.val (sInb i) := fun z hz => by
  obtain ⟨y, -, rfl⟩ := Finset.mem_map.mp hz
  refine mem_sSet.mpr ?_
  have hy : (y 0).val < 1 := lt_of_lt_of_eq (y 0).isLt h1
  show p 0 + 1 * (y 0).val = i.val
  omega

/-- at a landing slot; -/
theorem r_sub (s : Dev nD) (p : Fin 3 → ℕ) (sz : Fin 3 → ℕ) (h : ∀ a, p a + sz a ≤ S4x1024x512.size a) (hp : p 0 = s.val) (h1 : sz 0 = 1) :
    (rbM.access (Rect.unit (s := S4x1024x512) p sz h)).set ⊆ rSet s := fun z hz => by
  obtain ⟨y, -, rfl⟩ := Finset.mem_map.mp hz
  refine mem_rSet.mpr ?_
  have hy : (y 0).val < 1 := lt_of_lt_of_eq (y 0).isLt h1
  show p 0 + 1 * (y 0).val = s.val
  omega

/-- a load from a slot of bands stays in it, -/
theorem w_sub_load (i : Fin 3) (p : Fin 3 → ℕ) (sz : Fin 3 → ℕ) (h : ∀ a, p a + sz a ≤ S3x512x2048.size a) (hp : p 0 = i.val) (h1 : sz 0 = 1) :
    wvM.view.setOn (Rect.unit (s := S3x512x2048) p sz h).toLoadRect.set ⊆ wSet i.val (wInb i) :=
  Finset.Subset.trans (le_of_eq (View.set_slice wvM.view (Rect.unit (s := S3x512x2048) p sz h)).symm) (w_sub i p sz h hp h1)

/-- from a send slot, -/
theorem s_sub_load (i : Fin 3) (p : Fin 3 → ℕ) (sz : Fin 3 → ℕ) (h : ∀ a, p a + sz a ≤ S3x1024x512.size a) (hp : p 0 = i.val) (h1 : sz 0 = 1) :
    sbM.view.setOn (Rect.unit (s := S3x1024x512) p sz h).toLoadRect.set ⊆ sSet i.val (sInb i) :=
  Finset.Subset.trans (le_of_eq (View.set_slice sbM.view (Rect.unit (s := S3x1024x512) p sz h)).symm) (s_sub i p sz h hp h1)

/-- from a landing slot. -/
theorem r_sub_load (s : Dev nD) (p : Fin 3 → ℕ) (sz : Fin 3 → ℕ) (h : ∀ a, p a + sz a ≤ S4x1024x512.size a) (hp : p 0 = s.val) (h1 : sz 0 = 1) :
    rbM.view.setOn (Rect.unit (s := S4x1024x512) p sz h).toLoadRect.set ⊆ rSet s :=
  Finset.Subset.trans (le_of_eq (View.set_slice rbM.view (Rect.unit (s := S4x1024x512) p sz h)).symm) (r_sub s p sz h hp h1)

/-- A whole row band. -/
theorem load_band (i : Fin 3) (i' : ℕ) (hi : i' = i.val) (o : ℕ) (ho : o + 512 ≤ 4096) {h} {hl} {k : Vec F S1x512x2048 .f32 → TcProg F β} {Q : β → sProp 𝕄} :
    wPts c i (wBuf (inW m c) o ho) ⊢ iprop((wPts c i (wBuf (inW m c) o ho) -∗ run c (k (wBand (inW m c) o ho)) Q)
      -∗ run c (.op (.load wvM (Rect.unit (s := S3x512x2048) ![i', 0, 0] S1x512x2048.size h).toLoadRect hl) k) Q) := by
  unfold wPts
  have H := wp_load (Γ := .empty) (Q := Q) (defs := defs₀ (F := F)) 𝒱₀ (c : Thread nD τ) none Set.univ (m := wvM) (r := (Rect.unit (s := S3x512x2048) ![i', 0, 0] S1x512x2048.size h).toLoadRect)
    (hl := hl) (k := k) (q := fullShare) (f := wBuf (inW m c) o ho) (S := wSet i.val (wInb i)) (w_sub_load i _ _ h hi rfl)
  rw [read_wBand (inW m c) i' h o ho] at H
  exact H

/-- The columns for the device `t` of the row band in slot 1. -/
theorem load_wCols (t : Dev nD) (p : Fin 3 → ℕ) (e : p = ![1, 0, 512 * t.val]) (o : ℕ) (ho : o + 512 ≤ 4096) {h} {hl} {k : Vec F S1x512x512 .f32 → TcProg F β} {Q : β → sProp 𝕄} :
    wPts c 1 (wBuf (inW m c) o ho) ⊢ iprop((wPts c 1 (wBuf (inW m c) o ho) -∗ run c (k (wCols (inW m c) o ho t)) Q)
      -∗ run c (.op (.load wvM (Rect.unit (s := S3x512x2048) p S1x512x512.size h).toLoadRect hl) k) Q) := by
  unfold wPts
  have H := wp_load (Γ := .empty) (Q := Q) (defs := defs₀ (F := F)) 𝒱₀ (c : Thread nD τ) none Set.univ (m := wvM) (r := (Rect.unit (s := S3x512x2048) p S1x512x512.size h).toLoadRect)
    (hl := hl) (k := k) (q := fullShare) (f := wBuf (inW m c) o ho) (S := wSet (1 : Fin 3).val (wInb 1)) (w_sub_load 1 _ _ h (by rw [e]; rfl) rfl)
  rw [read_wCols (inW m c) p h t e o ho] at H
  exact H

/-- The whole sum. -/
theorem load_acc (f : S1024x2048.Idx → Elt F .f32) {h} {hl} {k : Vec F S1024x2048 .f32 → TcProg F β} {Q : β → sProp 𝕄} :
    aPts c f ⊢ iprop((aPts c f -∗ run c (k f) Q)
      -∗ run c (.op (.load accM (Rect.unit (s := S1024x2048) ![0, 0] S1024x2048.size h).toLoadRect hl) k) Q) := by
  unfold aPts
  have H := wp_load (Γ := .empty) (Q := Q) (defs := defs₀ (F := F)) 𝒱₀ (c : Thread nD τ) none Set.univ (m := accM) (r := (Rect.unit (s := S1024x2048) ![0, 0] S1024x2048.size h).toLoadRect)
    (hl := hl) (k := k) (q := fullShare) (f := f) (S := Finset.univ) (Finset.subset_univ _)
  have e : accM.view.readAt (Elt F) (Rect.unit (s := S1024x2048) ![0, 0] S1024x2048.size h).toLoadRect f = f :=
    Memref.readAt_unit_zero (Elt F) cc0_scratch2 (funext fun a => by fin_cases a <;> rfl) _ f
  rw [e] at H
  exact H

/-- The columns of the sum for the device `t`. -/
theorem load_accCols (t : Dev nD) (p : Fin 2 → ℕ) (e : p = ![0, 512 * t.val]) (f : S1024x2048.Idx → Elt F .f32) {h} {hl} {k : Vec F S1024x512 .f32 → TcProg F β}
    {Q : β → sProp 𝕄} :
    aPts c f ⊢ iprop((aPts c f -∗ run c (k (accCols f t)) Q)
      -∗ run c (.op (.load accM (Rect.unit (s := S1024x2048) p S1024x512.size h).toLoadRect hl) k) Q) := by
  unfold aPts
  have H := wp_load (Γ := .empty) (Q := Q) (defs := defs₀ (F := F)) 𝒱₀ (c : Thread nD τ) none Set.univ (m := accM) (r := (Rect.unit (s := S1024x2048) p S1024x512.size h).toLoadRect)
    (hl := hl) (k := k) (q := fullShare) (f := f) (S := Finset.univ) (Finset.subset_univ _)
  rw [read_accCols f p h t e] at H
  exact H

/-- The sum replaced. -/
theorem store_acc (f v : S1024x2048.Idx → Elt F .f32) {h} {hs} {hm} {k : PUnit → TcProg F β} {Q : β → sProp 𝕄} :
    aPts c f ⊢ iprop((aPts c v -∗ run c (k ⟨⟩) Q)
      -∗ run c (.op (.store accM (Rect.unit (s := S1024x2048) ![0, 0] S1024x2048.size h) v Finset.univ hs hm) k) Q) := by
  unfold aPts
  have H := wp_store (Γ := .empty) (Q := Q) (defs := defs₀ (F := F)) 𝒱₀ (c : Thread nD τ) none Set.univ (m := accM) (r := Rect.unit (s := S1024x2048) ![0, 0] S1024x2048.size h)
    (w := v) (Mk := Finset.univ) (hx := hs) (hm := hm) (k := k) (f := f) (S := Finset.univ) (Finset.subset_univ _)
  have e : (accM.access (Rect.unit (s := S1024x2048) ![0, 0] S1024x2048.size h)).write (Elt F) f v Finset.univ = v :=
    Memref.write_access_unit_zero_univ (Elt F) cc0_scratch2 (funext fun a => by fin_cases a <;> rfl) _ f v
  rw [e] at H
  exact H

/-- A send slot, read and not used. -/
theorem load_send (i : Fin 3) (i' : ℕ) (hi : i' = i.val) {h} {hl} {k : Vec F S1x1024x512 .bf16 → TcProg F β} {Q : β → sProp 𝕄} (f : S3x1024x512.Idx → Elt F .bf16) :
    sPts c i f ⊢ iprop((∀ v, sPts c i f -∗ run c (k v) Q)
      -∗ run c (.op (.load sbM (Rect.unit (s := S3x1024x512) ![i', 0, 0] S1x1024x512.size h).toLoadRect hl) k) Q) := by
  unfold sPts
  iintro H Hk
  iapply (wp_load (Γ := .empty) (Q := Q) (defs := defs₀ (F := F)) 𝒱₀ (c : Thread nD τ) none Set.univ (m := sbM) (r := (Rect.unit (s := S3x1024x512) ![i', 0, 0] S1x1024x512.size h).toLoadRect)
    (hl := hl) (k := k) (q := fullShare) (f := f) (S := sSet i.val (sInb i)) (s_sub_load i _ _ h hi rfl)) $$ H
  iintro H
  iapply Hk; iexact H

/-- A block stored to a send slot. -/
theorem store_send (i : Fin 3) (i' : ℕ) (hi : i' = i.val) {h} {hs} {hm} (v : Vec F S1x1024x512 .bf16) {k : PUnit → TcProg F β} {Q : β → sProp 𝕄}
    (f : S3x1024x512.Idx → Elt F .bf16) :
    sPts c i f ⊢ iprop((sPts c i (sBuf v) -∗ run c (k ⟨⟩) Q)
      -∗ run c (.op (.store sbM (Rect.unit (s := S3x1024x512) ![i', 0, 0] S1x1024x512.size h) v Finset.univ hs hm) k) Q) := by
  subst hi
  unfold sPts
  have H := wp_store (Γ := .empty) (Q := Q) (defs := defs₀ (F := F)) 𝒱₀ (c : Thread nD τ) none Set.univ (m := sbM) (r := Rect.unit (s := S3x1024x512) ![i.val, 0, 0] S1x1024x512.size h)
    (w := v) (Mk := Finset.univ) (hx := hs) (hm := hm) (k := k) (f := f) (S := sSet i.val (sInb i)) (s_sub i _ _ h rfl rfl)
  have e : ((c : Thread nD τ).loc cc0_scratch3 ↦[sSet i.val (sInb i)]{fullShare}
        ((sbM.access (Rect.unit (s := S3x1024x512) ![i.val, 0, 0] S1x1024x512.size h)).write (Elt F) f v Finset.univ) : sProp 𝕄)
      = ((c : Thread nD τ).loc cc0_scratch3 ↦[sSet i.val (sInb i)]{fullShare} (sBuf v)) :=
    pointsTo_congr fun z hz => sStore v i.val h f z hz
  rw [← e]
  exact H

/-- The block landed from the device `s`. -/
theorem load_recv (s : Dev nD) (p : Fin 3 → ℕ) (e : p = ![s.val, 0, 0]) (v : Vec F S1x1024x512 .bf16) {h} {hl} {k : Vec F S1x1024x512 .bf16 → TcProg F β} {Q : β → sProp 𝕄} :
    rPts c s (rBuf v) ⊢ iprop((rPts c s (rBuf v) -∗ run c (k v) Q)
      -∗ run c (.op (.load rbM (Rect.unit (s := S4x1024x512) p S1x1024x512.size h).toLoadRect hl) k) Q) := by
  unfold rPts
  have H := wp_load (Γ := .empty) (Q := Q) (defs := defs₀ (F := F)) 𝒱₀ (c : Thread nD τ) none Set.univ (m := rbM) (r := (Rect.unit (s := S4x1024x512) p S1x1024x512.size h).toLoadRect)
    (hl := hl) (k := k) (q := fullShare) (f := rBuf v) (S := rSet s) (r_sub_load s _ _ h (by rw [e]; rfl) rfl)
  rw [read_rBuf v p h s e] at H
  exact H

/-- The result's columns, read and not used. -/
theorem load_out (p : Fin 2 → ℕ) {h} {hl} {k : Vec F S1024x512 .f32 → TcProg F β} {Q : β → sProp 𝕄} (f : S4096x512.Idx → Elt F .f32) :
    oPts c f ⊢ iprop((∀ v, oPts c f -∗ run c (k v) Q)
      -∗ run c (.op (.load oM (Rect.unit (s := S4096x512) p S1024x512.size h).toLoadRect hl) k) Q) := by
  unfold oPts
  iintro H Hk
  iapply (wp_load (Γ := .empty) (Q := Q) (defs := defs₀ (F := F)) 𝒱₀ (c : Thread nD τ) none Set.univ (m := oM) (r := (Rect.unit (s := S4096x512) p S1024x512.size h).toLoadRect)
    (hl := hl) (k := k) (q := fullShare) (f := f) (S := Finset.univ) (Finset.subset_univ _)) $$ H
  iintro H
  iapply Hk; iexact H

/-- Row block `s` of the result's columns replaced. -/
theorem store_out (s : Dev nD) (p : Fin 2 → ℕ) (e : p = ![1024 * s.val, 0]) (v : Vec F S1024x512 .f32) {h} {hs} {hm} {k : PUnit → TcProg F β} {Q : β → sProp 𝕄}
    (f : S4096x512.Idx → Elt F .f32) :
    oPts c f ⊢ iprop((oPts c (putRows s v f) -∗ run c (k ⟨⟩) Q)
      -∗ run c (.op (.store oM (Rect.unit (s := S4096x512) p S1024x512.size h) v Finset.univ hs hm) k) Q) := by
  unfold oPts
  have H := wp_store (Γ := .empty) (Q := Q) (defs := defs₀ (F := F)) 𝒱₀ (c : Thread nD τ) none Set.univ (m := oM) (r := Rect.unit (s := S4096x512) p S1024x512.size h)
    (w := v) (Mk := Finset.univ) (hx := hs) (hm := hm) (k := k) (f := f) (S := Finset.univ) (Finset.subset_univ _)
  rw [oStore v p h s e f] at H
  exact H

end Cert.Exchange

end
-- ==== Proof.Bands.lean ====
/-
# Bands: the parts of the kernel that start the copies, meet the peers and sum over the bands

Each theorem takes what a part of the printed body needs, and gives back what it leaves and returns.
-/
module

public import proofs.«01_k».proof.Proof.Moves

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Part → ℕ) (c : Dev nD)

/-- The copies of `x` and of the first three row bands are started. -/
theorem part1 (fx : S1024x4096.Idx → Elt F .f32) {Q : (Σ' (d0 : Dev nD) (v2 : BitVec 32) (v18 : Sems sig S_) (v21 : BitVec 32) (v22 : BitVec 32), BitVec 1) → sProp 𝕄} :
    xPts m c ⊢ iprop(xvPts c fx
      -∗ xFree c
      -∗ wTok m c 0
      -∗ (∃ f, wPts c 0 f)
      -∗ wFree c 0
      -∗ wTok m c 1
      -∗ (∃ f, wPts c 1 f)
      -∗ wFree c 1
      -∗ wTok m c 2
      -∗ (∃ f, wPts c 2 f)
      -∗ wFree c 2
      -∗ (∀ a b d e, (xFlight m c ∗ wFlight m c 0 0 (by decide) (by decide) ∗ wFlight m c 1 512 (by decide) (by decide) ∗ wFlight m c 2 1024 (by decide) (by decide)) -∗ Q ⟨c, a, SemArray.scalar (sig.barrier 0 rfl), b, d, e⟩)
      -∗ run c (k0_part1 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0) Q) := by
  rw [k0_part1_eq_skeleton]; unfold k0_part1_skel
  simp only [semSignalWord, semWaitWord, Prog.lift, Prog.bind_op, Prog.bind_ret, Prog.pure_eq_ret, wp_deviceId]
  iintro Hx Hv Hz Ht0 Hp0 Hz0 Ht1 Hp1 Hz1 Ht2 Hp2 Hz2 Hk
  iapply (start_x m c fx) $$ Hx Hv Hz
  iintro Hx
  iapply (start_band m c 0 0 rfl 0 _) $$ Ht0 Hp0 Hz0
  iintro Hf0
  iapply (start_band m c 1 1 rfl 512 _) $$ Ht1 Hp1 Hz1
  iintro Hf1
  iapply (start_band m c 2 2 rfl 1024 _) $$ Ht2 Hp2 Hz2
  iintro Hf2
  unfold run; rw [wp_ret]; imodintro
  iapply Hk
  isplitl [Hx]; · iexact Hx
  isplitl [Hf0]; · iexact Hf0
  isplitl [Hf1] <;> iassumption

/-- A device's landing slot for a peer is what the barrier signal to that peer hands over. -/
theorem landing (j : Fin 3) : iprop(∃ f, rPts c (hop j c) f) ⊢ (payOf m (hop j c) j .bar : sProp 𝕄) := by
  show _ ⊢ iprop(∃ f, rPts (back j (hop j c)) (hop j c) f)
  rw [back_hop]

/-- The device tells its peers that it is here, handing each the landing slot for it, and waits for them; then `x` has arrived. -/
theorem part2 (a : BitVec 32) (b d : BitVec 32) (e : BitVec 1) {Q : PUnit → sProp 𝕄} :
    world m K ⊢ iprop(ow c (owesB c)
      -∗ tok (hop 0 c) .bar 0
      -∗ (∃ f, rPts c (hop 0 c) f)
      -∗ tok (hop 1 c) .bar 1
      -∗ (∃ f, rPts c (hop 1 c) f)
      -∗ tok (hop 2 c) .bar 2
      -∗ (∃ f, rPts c (hop 2 c) f)
      -∗ pos c .bar
      -∗ cred (tallyAt (cell c .bar) () 3)
      -∗ xFlight m c
      -∗ ((ow c (owesR c) ∗ free c .bar ∗ (∃ f, rPts (hop 0 c) c f) ∗ (∃ f, rPts (hop 1 c) c f) ∗ (∃ f, rPts (hop 2 c) c f) ∗ xvPts c (inX m c) ∗ xPts m c ∗ xFree c) -∗ Q ⟨⟩)
      -∗ run c (k0_part2 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0 c a (SemArray.scalar (sig.barrier 0 rfl)) b d e) Q) := by
  rw [k0_part2_eq_skeleton]; unfold k0_part2_skel
  simp only [semSignalWord, semWaitWord, Prog.lift, Prog.bind_op, Prog.bind_ret, Prog.pure_eq_ret, wp_deviceId]
  iintro #Hw HO Ht0 Hr0 Ht1 Hr1 Ht2 Hr2 Hat Hc Hf Hk
  unfold owesB
  iapply (signal m K c .bar 0 rfl (Finset.mem_univ _) rfl (by decide) _ (dev1_eq c) _ (landing m c 0)) $$ Hw HO Ht0 Hr0
  iintro HO
  iapply (signal m K c .bar 1 rfl (Finset.mem_univ _) rfl (by decide) _ (dev2_eq c) _ (landing m c 1)) $$ Hw HO Ht1 Hr1
  iintro HO
  iapply (signal m K c .bar 2 rfl (Finset.mem_univ _) rfl (by decide) _ (dev3_eq c) _ (landing m c 2)) $$ Hw HO Ht2 Hr2
  iintro HO
  iapply (wait_bar m K c (by decide) (above_owesR c)) $$ Hw Hat Hc HO
  iintro ⟨HO, Hz, H0, H1, H2⟩
  iapply (wait_x m K c (above_mono (by decide) (above_owesR c))) $$ Hw Hf HO
  iintro ⟨Hv, Hx, Hxz, HO⟩
  unfold run; rw [wp_ret]; imodintro
  iapply Hk
  isplitl [HO]; · iexact HO
  isplitl [Hz]; · iexact Hz
  isplitl [H0]; · iexact H0
  isplitl [H1]; · iexact H1
  isplitl [H2]; · iexact H2
  isplitl [Hv]; · iexact Hv
  isplitl [Hx] <;> iassumption

/-- The product over the first band; band 3 is called for; band 1 is read. -/
theorem part3 (fa : S1024x2048.Idx → Elt F .f32) {Q : (Σ' (v80 : Vec F S1024x512 .f32), FVec F S512x2048 .f32) → sProp 𝕄} :
    world m K ⊢ iprop(ow c (owesR c)
      -∗ xvPts c (inX m c)
      -∗ aPts c fa
      -∗ wFlight m c 0 0 (by decide) (by decide)
      -∗ wFlight m c 1 512 (by decide) (by decide)
      -∗ ((ow c (owesR c) ∗ xvPts c (inX m c) ∗ aPts c (acc0 (inX m c) (inW m c)) ∗ wFlight m c 0 1536 (by decide) (by decide) ∗ wPts c 1 (wBuf (inW m c) 512 (by decide)) ∗ wTok m c 1 ∗ wFree c 1) -∗ Q ⟨xCols (inX m c) 512 (by decide), k0_pay2 (wBand (inW m c) 512 (by decide))⟩)
      -∗ run c (k0_part3 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0) Q) := by
  rw [k0_part3_eq_skeleton]; unfold k0_part3_skel
  simp only [semSignalWord, semWaitWord, Prog.lift, Prog.bind_op, Prog.bind_ret, Prog.pure_eq_ret, wp_deviceId]
  iintro #Hw HO Hv Ha Hf0 Hf1 Hk
  iapply (wait_band m K c 0 0 rfl 0 _ (above_mono (by decide) (above_owesR c))) $$ Hw Hf0 HO
  iintro ⟨Hp0, Ht0, Hz0, HO⟩
  iapply (load_x m c 0 _) $$ Hv
  iintro Hv
  iapply (load_band m c 0 0 rfl 0 _) $$ Hp0
  iintro Hp0
  iapply (load_acc c _) $$ Ha
  iintro Ha
  iapply (store_acc c _ _) $$ Ha
  iintro Ha
  iapply (start_band m c 0 0 rfl 1536 _) $$ Ht0 [Hp0] Hz0
  · iexists _; iexact Hp0
  iintro Hf0
  iapply (wait_band m K c 1 1 rfl 512 _ (above_mono (by decide) (above_owesR c))) $$ Hw Hf1 HO
  iintro ⟨Hp1, Ht1, Hz1, HO⟩
  iapply (load_x m c 512 _) $$ Hv
  iintro Hv
  iapply (load_band m c 1 1 rfl 512 _) $$ Hp1
  iintro Hp1
  unfold run; rw [wp_ret]; imodintro
  iapply Hk
  isplitl [HO]; · iexact HO
  isplitl [Hv]; · iexact Hv
  isplitl [Ha]; · iexact Ha
  isplitl [Hf0]; · iexact Hf0
  isplitl [Hp1]; · iexact Hp1
  isplitl [Ht1] <;> iassumption

/-- Bands 1 and 2 are added; band 4 is called for. -/
theorem part4 {Q : PUnit → sProp 𝕄} :
    world m K ⊢ iprop(ow c (owesR c)
      -∗ xvPts c (inX m c)
      -∗ aPts c (acc0 (inX m c) (inW m c))
      -∗ wFlight m c 2 1024 (by decide) (by decide)
      -∗ wPts c 1 (wBuf (inW m c) 512 (by decide))
      -∗ wTok m c 1
      -∗ wFree c 1
      -∗ ((ow c (owesR c) ∗ xvPts c (inX m c) ∗ aPts c (acc2 (inX m c) (inW m c)) ∗ wFlight m c 1 2048 (by decide) (by decide) ∗ wPts c 2 (wBuf (inW m c) 1024 (by decide)) ∗ wTok m c 2 ∗ wFree c 2) -∗ Q ⟨⟩)
      -∗ run c (k0_part4 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0 (xCols (inX m c) 512 (by decide)) (k0_pay2 (wBand (inW m c) 512 (by decide)))) Q) := by
  rw [k0_part4_eq_skeleton]; unfold k0_part4_skel
  simp only [semSignalWord, semWaitWord, Prog.lift, Prog.bind_op, Prog.bind_ret, Prog.pure_eq_ret, wp_deviceId]
  iintro #Hw HO Hv Ha Hf2 Hp1 Ht1 Hz1 Hk
  iapply (load_acc c _) $$ Ha
  iintro Ha
  iapply (load_acc c _) $$ Ha
  iintro Ha
  iapply (store_acc c _ _) $$ Ha
  iintro Ha
  iapply (start_band m c 1 1 rfl 2048 _) $$ Ht1 [Hp1] Hz1
  · iexists _; iexact Hp1
  iintro Hf1
  iapply (wait_band m K c 2 2 rfl 1024 _ (above_mono (by decide) (above_owesR c))) $$ Hw Hf2 HO
  iintro ⟨Hp2, Ht2, Hz2, HO⟩
  iapply (load_x m c 1024 _) $$ Hv
  iintro Hv
  iapply (load_band m c 2 2 rfl 1024 _) $$ Hp2
  iintro Hp2
  iapply (load_acc c _) $$ Ha
  iintro Ha
  iapply (load_acc c _) $$ Ha
  iintro Ha
  iapply (store_acc c _ _) $$ Ha
  iintro Ha
  unfold run; rw [wp_ret]; imodintro
  iapply Hk
  isplitl [HO]; · iexact HO
  isplitl [Hv]; · iexact Hv
  isplitl [Ha]; · iexact Ha
  isplitl [Hf1]; · iexact Hf1
  isplitl [Hp2]; · iexact Hp2
  isplitl [Ht2] <;> iassumption

/-- Band 3 is added; bands 5 and 6 are called for. -/
theorem part5 {Q : PUnit → sProp 𝕄} :
    world m K ⊢ iprop(ow c (owesR c)
      -∗ xvPts c (inX m c)
      -∗ aPts c (acc2 (inX m c) (inW m c))
      -∗ wFlight m c 0 1536 (by decide) (by decide)
      -∗ wPts c 2 (wBuf (inW m c) 1024 (by decide))
      -∗ wTok m c 2
      -∗ wFree c 2
      -∗ ((ow c (owesR c) ∗ xvPts c (inX m c) ∗ aPts c (acc3 (inX m c) (inW m c)) ∗ wFlight m c 2 2560 (by decide) (by decide) ∗ wFlight m c 0 3072 (by decide) (by decide)) -∗ Q ⟨⟩)
      -∗ run c (k0_part5 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0) Q) := by
  rw [k0_part5_eq_skeleton]; unfold k0_part5_skel
  simp only [semSignalWord, semWaitWord, Prog.lift, Prog.bind_op, Prog.bind_ret, Prog.pure_eq_ret, wp_deviceId]
  iintro #Hw HO Hv Ha Hf0 Hp2 Ht2 Hz2 Hk
  iapply (start_band m c 2 2 rfl 2560 _) $$ Ht2 [Hp2] Hz2
  · iexists _; iexact Hp2
  iintro Hf2
  iapply (wait_band m K c 0 0 rfl 1536 _ (above_mono (by decide) (above_owesR c))) $$ Hw Hf0 HO
  iintro ⟨Hp0, Ht0, Hz0, HO⟩
  iapply (load_x m c 1536 _) $$ Hv
  iintro Hv
  iapply (load_band m c 0 0 rfl 1536 _) $$ Hp0
  iintro Hp0
  iapply (load_acc c _) $$ Ha
  iintro Ha
  iapply (load_acc c _) $$ Ha
  iintro Ha
  iapply (store_acc c _ _) $$ Ha
  iintro Ha
  iapply (start_band m c 0 0 rfl 3072 _) $$ Ht0 [Hp0] Hz0
  · iexists _; iexact Hp0
  iintro Hf0
  unfold run; rw [wp_ret]; imodintro
  iapply Hk
  isplitl [HO]; · iexact HO
  isplitl [Hv]; · iexact Hv
  isplitl [Ha]; · iexact Ha
  isplitl [Hf2] <;> iassumption

/-- Band 4 is added; band 7 is called for; the product over band 5 is taken. -/
theorem part6 {Q : FVec F S1024x2048 .f32 → sProp 𝕄} :
    world m K ⊢ iprop(ow c (owesR c)
      -∗ xvPts c (inX m c)
      -∗ aPts c (acc3 (inX m c) (inW m c))
      -∗ wFlight m c 1 2048 (by decide) (by decide)
      -∗ wFlight m c 2 2560 (by decide) (by decide)
      -∗ ((ow c (owesR c) ∗ xvPts c (inX m c) ∗ aPts c (acc4 (inX m c) (inW m c)) ∗ wFlight m c 1 3584 (by decide) (by decide) ∗ wPts c 2 (wBuf (inW m c) 2560 (by decide)) ∗ wTok m c 2 ∗ wFree c 2) -∗ Q (k0_pay7 (xCols (inX m c) 2560 (by decide)) (wBand (inW m c) 2560 (by decide))))
      -∗ run c (k0_part6 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0) Q) := by
  rw [k0_part6_eq_skeleton]; unfold k0_part6_skel
  simp only [semSignalWord, semWaitWord, Prog.lift, Prog.bind_op, Prog.bind_ret, Prog.pure_eq_ret, wp_deviceId]
  iintro #Hw HO Hv Ha Hf1 Hf2 Hk
  iapply (wait_band m K c 1 1 rfl 2048 _ (above_mono (by decide) (above_owesR c))) $$ Hw Hf1 HO
  iintro ⟨Hp1, Ht1, Hz1, HO⟩
  iapply (load_x m c 2048 _) $$ Hv
  iintro Hv
  iapply (load_band m c 1 1 rfl 2048 _) $$ Hp1
  iintro Hp1
  iapply (load_acc c _) $$ Ha
  iintro Ha
  iapply (load_acc c _) $$ Ha
  iintro Ha
  iapply (store_acc c _ _) $$ Ha
  iintro Ha
  iapply (start_band m c 1 1 rfl 3584 _) $$ Ht1 [Hp1] Hz1
  · iexists _; iexact Hp1
  iintro Hf1
  iapply (wait_band m K c 2 2 rfl 2560 _ (above_mono (by decide) (above_owesR c))) $$ Hw Hf2 HO
  iintro ⟨Hp2, Ht2, Hz2, HO⟩
  iapply (load_x m c 2560 _) $$ Hv
  iintro Hv
  iapply (load_band m c 2 2 rfl 2560 _) $$ Hp2
  iintro Hp2
  unfold run; rw [wp_ret]; imodintro
  iapply Hk
  isplitl [HO]; · iexact HO
  isplitl [Hv]; · iexact Hv
  isplitl [Ha]; · iexact Ha
  isplitl [Hf1]; · iexact Hf1
  isplitl [Hp2]; · iexact Hp2
  isplitl [Ht2] <;> iassumption

/-- Bands 5 and 6 are added; band 7 has arrived. -/
theorem part7 (a : BitVec 32) {Q : (Σ' (v186 : BitVec 32), BitVec 32) → sProp 𝕄} :
    world m K ⊢ iprop(ow c (owesR c)
      -∗ xvPts c (inX m c)
      -∗ aPts c (acc4 (inX m c) (inW m c))
      -∗ wFlight m c 0 3072 (by decide) (by decide)
      -∗ wFlight m c 1 3584 (by decide) (by decide)
      -∗ (∀ a b, (ow c (owesR c) ∗ xvPts c (inX m c) ∗ aPts c (acc6 (inX m c) (inW m c)) ∗ wPts c 0 (wBuf (inW m c) 3072 (by decide)) ∗ wTok m c 0 ∗ wFree c 0 ∗ wPts c 1 (wBuf (inW m c) 3584 (by decide)) ∗ wTok m c 1 ∗ wFree c 1) -∗ Q ⟨a, b⟩)
      -∗ run c (k0_part7 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0 a (k0_pay7 (xCols (inX m c) 2560 (by decide)) (wBand (inW m c) 2560 (by decide)))) Q) := by
  rw [k0_part7_eq_skeleton]; unfold k0_part7_skel
  simp only [semSignalWord, semWaitWord, Prog.lift, Prog.bind_op, Prog.bind_ret, Prog.pure_eq_ret, wp_deviceId]
  iintro #Hw HO Hv Ha Hf0 Hf1 Hk
  iapply (load_acc c _) $$ Ha
  iintro Ha
  iapply (load_acc c _) $$ Ha
  iintro Ha
  iapply (store_acc c _ _) $$ Ha
  iintro Ha
  iapply (wait_band m K c 0 0 rfl 3072 _ (above_mono (by decide) (above_owesR c))) $$ Hw Hf0 HO
  iintro ⟨Hp0, Ht0, Hz0, HO⟩
  iapply (load_x m c 3072 _) $$ Hv
  iintro Hv
  iapply (load_band m c 0 0 rfl 3072 _) $$ Hp0
  iintro Hp0
  iapply (load_acc c _) $$ Ha
  iintro Ha
  iapply (load_acc c _) $$ Ha
  iintro Ha
  iapply (store_acc c _ _) $$ Ha
  iintro Ha
  iapply (wait_band m K c 1 1 rfl 3584 _ (above_mono (by decide) (above_owesR c))) $$ Hw Hf1 HO
  iintro ⟨Hp1, Ht1, Hz1, HO⟩
  unfold run; rw [wp_ret]; imodintro
  iapply Hk
  isplitl [HO]; · iexact HO
  isplitl [Hv]; · iexact Hv
  isplitl [Ha]; · iexact Ha
  isplitl [Hp0]; · iexact Hp0
  isplitl [Ht0]; · iexact Ht0
  isplitl [Hz0]; · iexact Hz0
  isplitl [Hp1]; · iexact Hp1
  isplitl [Ht1] <;> iassumption

end Cert.Exchange

end
-- ==== Proof.Blocks.lean ====
/-
# Blocks: the parts of the kernel that compute, send, receive and place the blocks of the exchange

Each theorem takes what a part of the printed body needs, and gives back what it leaves and returns.
-/
module

public import proofs.«01_k».proof.Proof.Moves

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Part → ℕ) (c : Dev nD)

/-- The eighth band ends with the contraction. -/
theorem last_band : 3584 + 512 ≤ 4096 := by decide

/-- The first block sent is the message for its destination, -/
theorem named10 (i : Fin 3) (t : Dev nD) : sPts c i (sBuf (k0_pay10 (accCols (acc6 (inX m c) (inW m c)) t) (xCols (inX m c) 3584 last_band) (wCols (inW m c) 3584 last_band t)))
    ⊢ sPts c i (sBuf (msg m c t)) := BI.Entails.refl _
/-- so is the second, -/
theorem named11 (i : Fin 3) (t : Dev nD) : sPts c i (sBuf (k0_pay11 (accCols (acc6 (inX m c) (inW m c)) t) (xCols (inX m c) 3584 last_band) (wCols (inW m c) 3584 last_band t)))
    ⊢ sPts c i (sBuf (msg m c t)) := BI.Entails.refl _
/-- and the third. -/
theorem named12 (i : Fin 3) (t : Dev nD) : sPts c i (sBuf (k0_pay12 (accCols (acc6 (inX m c) (inW m c)) t) (xCols (inX m c) 3584 last_band) (wCols (inW m c) 3584 last_band t)))
    ⊢ sPts c i (sBuf (msg m c t)) := BI.Entails.refl _
/-- The fourth is the block that the device keeps. -/
theorem named13 (t : Dev nD) (fo : S4096x512.Idx → Elt F .f32) :
    oPts c (putRows t (k0_pay13 (accCols (acc6 (inX m c) (inW m c)) t) (xCols (inX m c) 3584 last_band) (wCols (inW m c) 3584 last_band t)) fo)
    ⊢ oPts c (putRows t (own (inX m c) (inW m c) t) fo) := BI.Entails.refl _

/-- The block for the peer two places on is computed and sent. -/
theorem part8 (fs : S3x1024x512.Idx → Elt F .bf16) (a b d : BitVec 32) {Q : (Σ' (v219 : BitVec 32) (c4_i32_201 : BitVec 32), BitVec 1) → sProp 𝕄} :
    world m K ⊢ iprop(ow c (owesR c)
      -∗ xvPts c (inX m c)
      -∗ aPts c (acc6 (inX m c) (inW m c))
      -∗ wPts c 1 (wBuf (inW m c) 3584 (by decide))
      -∗ sPts c 0 fs
      -∗ (∃ f, rPts (hop 1 c) c f)
      -∗ tok c (.send 0) 0
      -∗ tok (hop 1 c) (.recv c) 0
      -∗ (∀ a b d, (ow c (owesE c + dueRecv 2 c + dueRecv 0 c) ∗ xvPts c (inX m c) ∗ aPts c (acc6 (inX m c) (inW m c)) ∗ wPts c 1 (wBuf (inW m c) 3584 (by decide)) ∗ cred (tallyAt (cell c (.send 0)) () N)) -∗ Q ⟨a, b, d⟩)
      -∗ run c (k0_part8 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0 c a b d) Q) := by
  rw [k0_part8_eq_skeleton]; unfold k0_part8_skel
  simp only [semSignalWord, semWaitWord, Prog.lift, Prog.bind_op, Prog.bind_ret, Prog.pure_eq_ret, wp_deviceId]
  iintro #Hw HO Hv Ha Hp Hs Hr Ht1 Ht2 Hk
  unfold owesR
  iapply (load_accCols c (hop 1 c) _ (off1_hop 1 c) _) $$ Ha
  iintro Ha
  iapply (load_x m c 3584 last_band) $$ Hv
  iintro Hv
  iapply (load_wCols m c (hop 1 c) _ (off2_hop 1 c) 3584 last_band) $$ Hp
  iintro Hp
  iapply (load_send c 0 0 rfl fs) $$ Hs
  iintro %_ Hs
  iapply (store_send c 0 0 rfl _ fs) $$ Hs
  iintro Hs
  ihave Hs := (named10 m c 0 (hop 1 c)) $$ Hs
  iapply (send m K c 1 0 _ (dev4_eq c) 0 rfl _ (k0_off3_eq c) _ (k0_off4_eq c) (owesE c + dueRecv 2 c + dueRecv 0 c)) $$ Hw Hs Hr HO Ht1 Ht2
  iintro ⟨Hc, HO⟩
  unfold run; rw [wp_ret]; imodintro
  iapply Hk
  isplitl [HO]; · iexact HO
  isplitl [Hv]; · iexact Hv
  isplitl [Ha]; · iexact Ha
  isplitl [Hp] <;> iassumption

/-- The block for the next peer is computed and sent. -/
theorem part9 (fs : S3x1024x512.Idx → Elt F .bf16) (a b d : BitVec 32) (e : BitVec 1) {Q : BitVec 32 → sProp 𝕄} :
    world m K ⊢ iprop(ow c (owesE c + dueRecv 2 c + dueRecv 0 c)
      -∗ xvPts c (inX m c)
      -∗ aPts c (acc6 (inX m c) (inW m c))
      -∗ wPts c 1 (wBuf (inW m c) 3584 (by decide))
      -∗ sPts c 1 fs
      -∗ (∃ f, rPts (hop 0 c) c f)
      -∗ tok c (.send 1) 0
      -∗ tok (hop 0 c) (.recv c) 0
      -∗ (∀ a, (ow c (owesE c + dueRecv 2 c) ∗ xvPts c (inX m c) ∗ aPts c (acc6 (inX m c) (inW m c)) ∗ wPts c 1 (wBuf (inW m c) 3584 (by decide)) ∗ cred (tallyAt (cell c (.send 1)) () N)) -∗ Q a)
      -∗ run c (k0_part9 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0 c a b d e) Q) := by
  rw [k0_part9_eq_skeleton]; unfold k0_part9_skel
  simp only [semSignalWord, semWaitWord, Prog.lift, Prog.bind_op, Prog.bind_ret, Prog.pure_eq_ret, wp_deviceId]
  iintro #Hw HO Hv Ha Hp Hs Hr Ht1 Ht2 Hk
  iapply (load_accCols c (hop 0 c) _ (off1_hop 0 c) _) $$ Ha
  iintro Ha
  iapply (load_x m c 3584 last_band) $$ Hv
  iintro Hv
  iapply (load_wCols m c (hop 0 c) _ (off2_hop 0 c) 3584 last_band) $$ Hp
  iintro Hp
  iapply (load_send c 1 1 rfl fs) $$ Hs
  iintro %_ Hs
  iapply (store_send c 1 1 rfl _ fs) $$ Hs
  iintro Hs
  ihave Hs := (named11 m c 1 (hop 0 c)) $$ Hs
  iapply (send m K c 0 1 _ (dev5_eq c) 1 rfl _ (k0_off3_eq c) _ (k0_off4_eq c) (owesE c + dueRecv 2 c)) $$ Hw Hs Hr HO Ht1 Ht2
  iintro ⟨Hc, HO⟩
  unfold run; rw [wp_ret]; imodintro
  iapply Hk
  isplitl [HO]; · iexact HO
  isplitl [Hv]; · iexact Hv
  isplitl [Ha]; · iexact Ha
  isplitl [Hp] <;> iassumption

/-- The block for the peer three places on is computed. -/
theorem part10 (fs : S3x1024x512.Idx → Elt F .bf16) (a : BitVec 32) {Q : PUnit → sProp 𝕄} :
    xvPts c (inX m c) ⊢ iprop(aPts c (acc6 (inX m c) (inW m c))
      -∗ wPts c 1 (wBuf (inW m c) 3584 (by decide))
      -∗ sPts c 2 fs
      -∗ ((xvPts c (inX m c) ∗ aPts c (acc6 (inX m c) (inW m c)) ∗ wPts c 1 (wBuf (inW m c) 3584 (by decide)) ∗ sPts c 2 (sBuf (msg m c (hop 2 c)))) -∗ Q ⟨⟩)
      -∗ run c (k0_part10 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0 c a) Q) := by
  rw [k0_part10_eq_skeleton]; unfold k0_part10_skel
  simp only [semSignalWord, semWaitWord, Prog.lift, Prog.bind_op, Prog.bind_ret, Prog.pure_eq_ret, wp_deviceId]
  iintro Hv Ha Hp Hs Hk
  iapply (load_accCols c (hop 2 c) _ (off1_hop 2 c) _) $$ Ha
  iintro Ha
  iapply (load_x m c 3584 last_band) $$ Hv
  iintro Hv
  iapply (load_wCols m c (hop 2 c) _ (off2_hop 2 c) 3584 last_band) $$ Hp
  iintro Hp
  iapply (load_send c 2 2 rfl fs) $$ Hs
  iintro %_ Hs
  iapply (store_send c 2 2 rfl _ fs) $$ Hs
  iintro Hs
  ihave Hs := (named12 m c 2 (hop 2 c)) $$ Hs
  unfold run; rw [wp_ret]; imodintro
  iapply Hk
  isplitl [Hv]; · iexact Hv
  isplitl [Ha]; · iexact Ha
  isplitl [Hp] <;> iassumption

/-- That block is sent; the device's own block is computed and placed. -/
theorem part11 (fo : S4096x512.Idx → Elt F .f32) (a : BitVec 32) {Q : (Σ' (v316 : BitVec 32) (v321 : BitVec 1), BitVec 32) → sProp 𝕄} :
    world m K ⊢ iprop(ow c (owesE c + dueRecv 2 c)
      -∗ xvPts c (inX m c)
      -∗ aPts c (acc6 (inX m c) (inW m c))
      -∗ wPts c 1 (wBuf (inW m c) 3584 (by decide))
      -∗ sPts c 2 (sBuf (msg m c (hop 2 c)))
      -∗ (∃ f, rPts (hop 2 c) c f)
      -∗ tok c (.send 2) 0
      -∗ tok (hop 2 c) (.recv c) 0
      -∗ oPts c fo
      -∗ (∀ a b d, (ow c (owesE c) ∗ xvPts c (inX m c) ∗ aPts c (acc6 (inX m c) (inW m c)) ∗ wPts c 1 (wBuf (inW m c) 3584 (by decide)) ∗ cred (tallyAt (cell c (.send 2)) () N) ∗ oPts c (putRows c (own (inX m c) (inW m c) c) fo)) -∗ Q ⟨a, b, d⟩)
      -∗ run c (k0_part11 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0 c a) Q) := by
  rw [k0_part11_eq_skeleton]; unfold k0_part11_skel
  simp only [semSignalWord, semWaitWord, Prog.lift, Prog.bind_op, Prog.bind_ret, Prog.pure_eq_ret, wp_deviceId]
  iintro #Hw HO Hv Ha Hp Hs Hr Ht1 Ht2 Ho Hk
  iapply (send m K c 2 2 _ (dev6_eq c) 2 rfl _ (k0_off3_eq c) _ (k0_off4_eq c) (owesE c)) $$ Hw Hs Hr HO Ht1 Ht2
  iintro ⟨Hc, HO⟩
  iapply (load_accCols c c _ (off1_own c) _) $$ Ha
  iintro Ha
  iapply (load_x m c 3584 last_band) $$ Hv
  iintro Hv
  iapply (load_wCols m c c _ (off2_own c) 3584 last_band) $$ Hp
  iintro Hp
  iapply (load_out c _ fo) $$ Ho
  iintro %_ Ho
  iapply (store_out c c _ (k0_off5_eq c) _ fo) $$ Ho
  iintro Ho
  ihave Ho := (named13 m c c fo) $$ Ho
  unfold run; rw [wp_ret]; imodintro
  iapply Hk
  isplitl [HO]; · iexact HO
  isplitl [Hv]; · iexact Hv
  isplitl [Ha]; · iexact Ha
  isplitl [Hp]; · iexact Hp
  isplitl [Hc] <;> iassumption

/-- The block from the peer two places on is taken in. -/
theorem part12 (fo : S4096x512.Idx → Elt F .f32) (a b : BitVec 32) (d : BitVec 1) (e : BitVec 32) {Q : BitVec 32 → sProp 𝕄} :
    world m K ⊢ iprop(ow c (owesE c)
      -∗ pos c (.recv (hop 1 c))
      -∗ cred (tallyAt (cell c (.recv (hop 1 c))) () N)
      -∗ oPts c fo
      -∗ (∀ a, (ow c (owesE c) ∗ free c (.recv (hop 1 c)) ∗ rPts c (hop 1 c) (rBuf (msg m (hop 1 c) c)) ∗ oPts c (putRows (hop 1 c) (k0_pay14 (msg m (hop 1 c) c)) fo)) -∗ Q a)
      -∗ run c (k0_part12 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0 c a b d e) Q) := by
  rw [k0_part12_eq_skeleton]; unfold k0_part12_skel
  simp only [semSignalWord, semWaitWord, Prog.lift, Prog.bind_op, Prog.bind_ret, Prog.pure_eq_ret, wp_deviceId]
  iintro #Hw HO Hat1 Hc1 Ho Hk
  iapply (wait_recv m K c (hop 1 c) (hop_ne 1 c) _ (off6_hop 1 c) _ (above_owesE c)) $$ Hw Hat1 Hc1 HO
  iintro ⟨HO, Hz1, Hr1⟩
  iapply (load_recv c (hop 1 c) _ (off8_hop 1 c) _) $$ Hr1
  iintro Hr1
  iapply (load_out c _ _) $$ Ho
  iintro %_ Ho
  iapply (store_out c (hop 1 c) _ (off9_hop 1 c) _ _) $$ Ho
  iintro Ho
  unfold run; rw [wp_ret]; imodintro
  iapply Hk
  isplitl [HO]; · iexact HO
  isplitl [Hz1]; · iexact Hz1
  isplitl [Hr1] <;> iassumption

/-- The block from the next peer is taken in, and the block from the peer three places on is read. -/
theorem part13 (fo : S4096x512.Idx → Elt F .f32) (a b : BitVec 32) {Q : (Σ' (v387 : FVec F S1024x512 .f32), BitVec 32) → sProp 𝕄} :
    world m K ⊢ iprop(ow c (owesE c)
      -∗ pos c (.recv (hop 0 c))
      -∗ cred (tallyAt (cell c (.recv (hop 0 c))) () N)
      -∗ pos c (.recv (hop 2 c))
      -∗ cred (tallyAt (cell c (.recv (hop 2 c))) () N)
      -∗ oPts c fo
      -∗ (∀ a, (ow c (owesE c) ∗ free c (.recv (hop 0 c)) ∗ rPts c (hop 0 c) (rBuf (msg m (hop 0 c) c)) ∗ free c (.recv (hop 2 c)) ∗ rPts c (hop 2 c) (rBuf (msg m (hop 2 c) c)) ∗ oPts c (putRows (hop 0 c) (k0_pay15 (msg m (hop 0 c) c)) fo)) -∗ Q ⟨k0_pay16 (msg m (hop 2 c) c), a⟩)
      -∗ run c (k0_part13 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0 c a b) Q) := by
  rw [k0_part13_eq_skeleton]; unfold k0_part13_skel
  simp only [semSignalWord, semWaitWord, Prog.lift, Prog.bind_op, Prog.bind_ret, Prog.pure_eq_ret, wp_deviceId]
  iintro #Hw HO Hat0 Hc0 Hat2 Hc2 Ho Hk
  iapply (wait_recv m K c (hop 0 c) (hop_ne 0 c) _ (off6_hop 0 c) _ (above_owesE c)) $$ Hw Hat0 Hc0 HO
  iintro ⟨HO, Hz0, Hr0⟩
  iapply (load_recv c (hop 0 c) _ (off8_hop 0 c) _) $$ Hr0
  iintro Hr0
  iapply (load_out c _ _) $$ Ho
  iintro %_ Ho
  iapply (store_out c (hop 0 c) _ (off9_hop 0 c) _ _) $$ Ho
  iintro Ho
  iapply (wait_recv m K c (hop 2 c) (hop_ne 2 c) _ (off6_hop 2 c) _ (above_owesE c)) $$ Hw Hat2 Hc2 HO
  iintro ⟨HO, Hz2, Hr2⟩
  iapply (load_recv c (hop 2 c) _ (off8_hop 2 c) _) $$ Hr2
  iintro Hr2
  unfold run; rw [wp_ret]; imodintro
  iapply Hk
  isplitl [HO]; · iexact HO
  isplitl [Hz0]; · iexact Hz0
  isplitl [Hr0]; · iexact Hr0
  isplitl [Hz2]; · iexact Hz2
  isplitl [Hr2] <;> iassumption

/-- That block is placed, and the sends are done. -/
theorem part14 (fo : S4096x512.Idx → Elt F .f32) (a d : BitVec 32) {Q : (Σ' (v412_r0 : BitVec 32) (v413_r0 : BitVec 32) (v414_r0 : BitVec 1) (v415_r0 : BitVec 1), BitVec 1) → sProp 𝕄} :
    world m K ⊢ iprop(ow c (owesE c)
      -∗ oPts c fo
      -∗ pos c (.send 0)
      -∗ cred (tallyAt (cell c (.send 0)) () N)
      -∗ pos c (.send 1)
      -∗ cred (tallyAt (cell c (.send 1)) () N)
      -∗ pos c (.send 2)
      -∗ cred (tallyAt (cell c (.send 2)) () N)
      -∗ (∀ a b d e g, (ow c (owesE c) ∗ oPts c (putRows (hop 2 c) (k0_pay16 (msg m (hop 2 c) c)) fo) ∗ free c (.send 0) ∗ (∃ f, sPts c 0 f) ∗ free c (.send 1) ∗ (∃ f, sPts c 1 f) ∗ free c (.send 2) ∗ (∃ f, sPts c 2 f)) -∗ Q ⟨a, b, d, e, g⟩)
      -∗ run c (k0_part14 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0 c a (k0_pay16 (msg m (hop 2 c) c)) d) Q) := by
  rw [k0_part14_eq_skeleton]; unfold k0_part14_skel
  simp only [semSignalWord, semWaitWord, Prog.lift, Prog.bind_op, Prog.bind_ret, Prog.pure_eq_ret, wp_deviceId]
  iintro #Hw HO Ho Hat0 Hc0 Hat1 Hc1 Hat2 Hc2 Hk
  iapply (load_out c _ _) $$ Ho
  iintro %_ Ho
  iapply (store_out c (hop 2 c) _ (off9_hop 2 c) _ _) $$ Ho
  iintro Ho
  iapply (wait_send m K c 0 0 rfl _ (above_mono (by decide) (above_owesE c))) $$ Hw Hat0 Hc0 HO
  iintro ⟨HO, Hz0, Hs0⟩
  iapply (wait_send m K c 1 1 rfl _ (above_mono (by decide) (above_owesE c))) $$ Hw Hat1 Hc1 HO
  iintro ⟨HO, Hz1, Hs1⟩
  iapply (wait_send m K c 2 2 rfl _ (above_mono (by decide) (above_owesE c))) $$ Hw Hat2 Hc2 HO
  iintro ⟨HO, Hz2, Hs2⟩
  unfold run; rw [wp_ret]; imodintro
  iapply Hk
  isplitl [HO]; · iexact HO
  isplitl [Ho]; · iexact Ho
  isplitl [Hz0]; · iexact Hz0
  isplitl [Hs0]; · iexact Hs0
  isplitl [Hz1]; · iexact Hz1
  isplitl [Hs1]; · iexact Hs1
  isplitl [Hz2] <;> iassumption

/-- An exit signal hands over nothing. -/
theorem nothing (j : Fin 3) : iprop(emp) ⊢ (payOf m (hop j c) j .exit : sProp 𝕄) := BI.Entails.refl _

/-- The device tells its peers that it is done. -/
theorem part15 (a b d : BitVec 32) (e g h : BitVec 1) {Q : PUnit → sProp 𝕄} :
    world m K ⊢ iprop(ow c (owesE c)
      -∗ tok (hop 0 c) .exit 0
      -∗ tok (hop 1 c) .exit 1
      -∗ tok (hop 2 c) .exit 2
      -∗ ((ow c 0) -∗ Q ⟨⟩)
      -∗ run c (k0_part15 (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0 c a b d e g h) Q) := by
  rw [k0_part15_eq_skeleton]; unfold k0_part15_skel
  simp only [semSignalWord, semWaitWord, Prog.lift, Prog.bind_op, Prog.bind_ret, Prog.pure_eq_ret, wp_deviceId]
  iintro #Hw HO Ht0 Ht1 Ht2 Hk
  unfold owesE
  rw [← zero_add (dueExit 2 c)]
  iapply (signal m K c .exit 0 rfl (Finset.mem_univ _) rfl (by decide) _ (dev7_eq c) _ (nothing m c 0)) $$ Hw HO Ht0 []
  · iempintro
  iintro HO
  iapply (signal m K c .exit 1 rfl (Finset.mem_univ _) rfl (by decide) _ (dev8_eq c) _ (nothing m c 1)) $$ Hw HO Ht1 []
  · iempintro
  iintro HO
  iapply (signal m K c .exit 2 rfl (Finset.mem_univ _) rfl (by decide) _ (dev9_eq c) _ (nothing m c 2)) $$ Hw HO Ht2 []
  · iempintro
  iintro HO
  unfold run; rw [wp_ret]; imodintro
  iapply Hk; iexact HO

end Cert.Exchange

end
-- ==== Proof.Body.lean ====
/-
# Body: one device's run of the whole kernel, from what it holds at launch to the columns of the result

The parts' theorems are put in a row. What the device holds of memory and of its own semaphores is the same before and
after; the protocol's tokens are spent, and every shared cell of the device comes back at zero.
-/
module

public import proofs.«01_k».proof.Proof.Bands
public import proofs.«01_k».proof.Proof.Blocks

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Part → ℕ) (c : Dev nD)

/-- What the device holds of memory, apart from the staged result and from the landing slot for itself, which nothing touches. -/
def memory : sProp 𝕄 :=
  iprop(xPts m c
    ∗ (∃ f, xvPts c f)
    ∗ wTok m c 0
    ∗ wTok m c 1
    ∗ wTok m c 2
    ∗ (∃ f, wPts c 0 f)
    ∗ (∃ f, wPts c 1 f)
    ∗ (∃ f, wPts c 2 f)
    ∗ (∃ f, aPts c f)
    ∗ (∃ f, sPts c 0 f)
    ∗ (∃ f, sPts c 1 f)
    ∗ (∃ f, sPts c 2 f)
    ∗ (∃ f, rPts c (hop 0 c) f)
    ∗ (∃ f, rPts c (hop 1 c) f)
    ∗ (∃ f, rPts c (hop 2 c) f))

/-- The semaphores of the copies within the device, at zero. -/
def locals : sProp 𝕄 :=
  iprop(xFree c
    ∗ wFree c 0
    ∗ wFree c 1
    ∗ wFree c 2)

/-- The device's part in the exchange: its places, the credit of its waits on what peers send, and the duties that it is to pay. -/
def protocol : sProp 𝕄 :=
  iprop(pos c .bar
    ∗ pos c .exit
    ∗ pos c (.send 0)
    ∗ pos c (.send 1)
    ∗ pos c (.send 2)
    ∗ pos c (.recv (hop 0 c))
    ∗ pos c (.recv (hop 1 c))
    ∗ pos c (.recv (hop 2 c))
    ∗ cred (tallyAt (cell c .bar) () 3)
    ∗ cred (tallyAt (cell c .exit) () 3)
    ∗ cred (tallyAt (cell c (.recv (hop 0 c))) () N)
    ∗ cred (tallyAt (cell c (.recv (hop 1 c))) () N)
    ∗ cred (tallyAt (cell c (.recv (hop 2 c))) () N)
    ∗ tok (hop 0 c) .bar 0
    ∗ tok (hop 1 c) .bar 1
    ∗ tok (hop 2 c) .bar 2
    ∗ tok (hop 0 c) .exit 0
    ∗ tok (hop 1 c) .exit 1
    ∗ tok (hop 2 c) .exit 2
    ∗ tok (hop 0 c) (.recv c) 0
    ∗ tok (hop 1 c) (.recv c) 0
    ∗ tok (hop 2 c) (.recv c) 0
    ∗ tok c (.send 0) 0
    ∗ tok c (.send 1) 0
    ∗ tok c (.send 2) 0)

/-- The device's shared cells, at zero and out of the protocol. -/
def frees : sProp 𝕄 :=
  iprop(free c .bar
    ∗ free c .exit
    ∗ free c (.send 0)
    ∗ free c (.send 1)
    ∗ free c (.send 2)
    ∗ free c (.recv (hop 0 c))
    ∗ free c (.recv (hop 1 c))
    ∗ free c (.recv (hop 2 c)))

/-- The columns of the result that device `c` returns. -/
def outCols : S4096x512.Idx → Elt F .f32 :=
  rows c (own (inX m c) (inW m c) c) (fun s => msg m s c) (m ((c : Thread nD τ).loc main_v1))

set_option maxHeartbeats 2000000 in
/-- The run of the printed body on one device. -/
theorem body_run {Q : PUnit → sProp 𝕄} (fo : S4096x512.Idx → Elt F .f32) :
    world m K ⊢ iprop(ow c (owesB c) -∗ memory m c -∗ locals c -∗ protocol c -∗ oPts c fo
      -∗ ((ow c 0 ∗ memory m c ∗ locals c ∗ frees c ∗ oPts c (outCols m c)) -∗ Q ⟨⟩)
      -∗ run c (cc0_body (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0) Q) := by
  rw [cc0_body_eq_skeleton]; unfold cc0_body_skel
  unfold memory locals protocol frees run
  iintro #Hw HO ⟨Hx, ⟨%fx, Hv⟩, Ht0, Ht1, Ht2, Hp0, Hp1, Hp2, ⟨%fa, Ha⟩, ⟨%f0, Hs0⟩, ⟨%f1, Hs1⟩, ⟨%f2, Hs2⟩, Hr0, Hr1, Hr2⟩ ⟨Hxz, Hz0, Hz1, Hz2⟩ ⟨PB, PE, PS0, PS1, PS2, PR0, PR1, PR2, CB, CE, CR0, CR1, CR2, TB0, TB1, TB2, TE0, TE1, TE2, TR0, TR1, TR2, TS0, TS1, TS2⟩ Ho Hk
  rw [wp_bind]
  iapply (part1 m c fx) $$ Hx Hv Hxz Ht0 Hp0 Hz0 Ht1 Hp1 Hz1 Ht2 Hp2 Hz2
  iintro %a %b %d %e ⟨Hxf, F0, F1, F2⟩
  rw [wp_bind]
  iapply (part2 m K c a b d e) $$ Hw HO TB0 Hr0 TB1 Hr1 TB2 Hr2 PB CB Hxf
  iintro ⟨HO, FB, L0, L1, L2, Hv, Hx, Hxz⟩
  rw [wp_bind]
  iapply (part3 m K c fa) $$ Hw HO Hv Ha F0 F1
  iintro ⟨HO, Hv, Ha, F0, Hp1, Ht1, Hz1⟩
  rw [wp_bind]
  iapply (part4 m K c) $$ Hw HO Hv Ha F2 Hp1 Ht1 Hz1
  iintro ⟨HO, Hv, Ha, F1, Hp2, Ht2, Hz2⟩
  rw [wp_bind]
  iapply (part5 m K c) $$ Hw HO Hv Ha F0 Hp2 Ht2 Hz2
  iintro ⟨HO, Hv, Ha, F2, F0⟩
  rw [wp_bind]
  iapply (part6 m K c) $$ Hw HO Hv Ha F1 F2
  iintro ⟨HO, Hv, Ha, F1, Hp2, Ht2, Hz2⟩
  rw [wp_bind]
  iapply (part7 m K c a) $$ Hw HO Hv Ha F0 F1
  iintro %a1 %a2 ⟨HO, Hv, Ha, Hp0, Ht0, Hz0, Hp1, Ht1, Hz1⟩
  rw [wp_bind]
  iapply (part8 m K c f0 a a1 a2) $$ Hw HO Hv Ha Hp1 Hs0 L1 TS0 TR1
  iintro %b1 %b2 %b3 ⟨HO, Hv, Ha, Hp1, CS0⟩
  rw [wp_bind]
  iapply (part9 m K c f1 a b1 b2 b3) $$ Hw HO Hv Ha Hp1 Hs1 L0 TS1 TR0
  iintro %d1 ⟨HO, Hv, Ha, Hp1, CS1⟩
  rw [wp_bind]
  iapply (part10 m c f2 d1) $$ Hv Ha Hp1 Hs2
  iintro ⟨Hv, Ha, Hp1, Hs2⟩
  rw [wp_bind]
  iapply (part11 m K c fo a) $$ Hw HO Hv Ha Hp1 Hs2 L2 TS2 TR2 Ho
  iintro %e1 %e2 %e3 ⟨HO, Hv, Ha, Hp1, CS2, Ho⟩
  rw [wp_bind]
  iapply (part12 m K c _ a e1 e2 e3) $$ Hw HO PR1 CR1 Ho
  iintro %g1 ⟨HO, FR1, Hr1, Ho⟩
  rw [wp_bind]
  iapply (part13 m K c _ a g1) $$ Hw HO PR0 CR0 PR2 CR2 Ho
  iintro %g2 ⟨HO, FR0, Hr0, FR2, Hr2, Ho⟩
  rw [wp_bind]
  iapply (part14 m K c _ a g2) $$ Hw HO Ho PS0 CS0 PS1 CS1 PS2 CS2
  iintro %h1 %h2 %h3 %h4 %h5 ⟨HO, Ho, FS0, Hs0, FS1, Hs1, FS2, Hs2⟩
  rw [wp_bind]
  iapply (part15 m K c a h1 h2 h3 h4 h5) $$ Hw HO TE0 TE1 TE2
  iintro HO
  simp only [semWaitWord, Prog.bind_op, Prog.bind_ret, Prog.pure_eq_ret]
  iapply (wait_exit m K c (by decide) (above_zero 3)) $$ Hw PE CE HO
  iintro ⟨HO, FE⟩
  unfold run; rw [wp_ret]; imodintro
  iapply Hk
  isplitl [HO]; · iexact HO
  isplitl [Hx Hv Ht0 Ht1 Ht2 Hp0 Hp1 Hp2 Ha Hs0 Hs1 Hs2 Hr0 Hr1 Hr2]
  · isplitl [Hx]; · iexact Hx
    isplitl [Hv]; · iexists _; iexact Hv
    isplitl [Ht0]; · iexact Ht0
    isplitl [Ht1]; · iexact Ht1
    isplitl [Ht2]; · iexact Ht2
    isplitl [Hp0]; · iexists _; iexact Hp0
    isplitl [Hp1]; · iexists _; iexact Hp1
    isplitl [Hp2]; · iexists _; iexact Hp2
    isplitl [Ha]; · iexists _; iexact Ha
    isplitl [Hs0]; · iexact Hs0
    isplitl [Hs1]; · iexact Hs1
    isplitl [Hs2]; · iexact Hs2
    isplitl [Hr0]; · iexists _; iexact Hr0
    isplitl [Hr1]; · iexists _; iexact Hr1
    iexists _; iexact Hr2
  isplitl [Hxz Hz0 Hz1 Hz2]
  · isplitl [Hxz]; · iexact Hxz
    isplitl [Hz0]; · iexact Hz0
    isplitl [Hz1]; · iexact Hz1
    iexact Hz2
  isplitl [FB FE FS0 FS1 FS2 FR0 FR1 FR2]
  · isplitl [FB]; · iexact FB
    isplitl [FE]; · iexact FE
    isplitl [FS0]; · iexact FS0
    isplitl [FS1]; · iexact FS1
    isplitl [FS2]; · iexact FS2
    isplitl [FR0]; · iexact FR0
    isplitl [FR1]; · iexact FR1
    iexact FR2
  unfold outCols
  rw [rows_any c _ _ _ fo]
  iexact Ho

end Cert.Exchange

end
-- ==== Proof.Deal.lean ====
/-
# Deal: what the launch hands to each device

At launch every shared cell gets its protocol, and the rights to pay its duties are made beside it. A right belongs
with the device that pays, so the rights are dealt round the four devices: whoever is `j + 1` places before a device
gets that device's right number `j`. The credit of the launch is what all devices owe, counted cell by cell.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores at launch -/

/-- The kernel's own semaphores: the exit handshake's and the eleven that copies complete on. -/
abbrev osem : Fin 12 → SemLoc sig := fun
  | 0 => .reg (1 : Fin 2) | 1 => .dma (1 : Fin 12) | 2 => .dma (2 : Fin 12) | 3 => .dma (3 : Fin 12) | 4 => .dma (4 : Fin 12)
  | 5 => .dma (5 : Fin 12) | 6 => .dma (6 : Fin 12) | 7 => .dma (7 : Fin 12) | 8 => .dma (8 : Fin 12) | 9 => .dma (9 : Fin 12)
  | 10 => .dma (10 : Fin 12) | 11 => .dma (11 : Fin 12)

/-- The semaphores of the call are its own: none is a window's. -/
theorem ownSemFacts : Pipeline.OwnSemFacts cfg0.spec osem := by decide

/-- They are the exit cell, the four of the copies within the device, the three send cells and the four receive cells. -/
theorem ownSems (c : Dev nD) : (Pipeline.ownSems0 (Ix := Unit) (Name := ℕ) (U := UU) (Lvl := ℕ) (Val := Elt F) (τ := τ) osem c : sProp 𝕄)
    = iprop(free c .exit ∗ xFree c ∗ wFree c 0 ∗ wFree c 1 ∗ wFree c 2 ∗ free c (.send 0) ∗ free c (.send 1) ∗ free c (.send 2)
      ∗ free c (.recv 0) ∗ free c (.recv 1) ∗ free c (.recv 2) ∗ free c (.recv 3)) := by
  rw [Pipeline.ownSems0_eq_of_list c osem [0, 1, 2, 3, 4, 5, 6, 7, 8, 9, 10, 11] (by decide) (by decide)]; rfl
/-- The barrier cell is the one that is not the kernel's own. -/
theorem otherSems (c : Dev nD) : (unscopedSems0 c : sProp 𝕄) = free c .bar := by
  unfold unscopedSems0; rw [bigSep_eq_bigSepL_of_eq [SemLoc.reg barS] (by decide) (by decide)]; rfl

/-- Four things by the device's number are those of the device itself and of the three devices after it, -/
theorem peersAfter (c : Dev nD) (Φ : Fin 4 → sProp 𝕄) : iprop(Φ 0 ∗ Φ 1 ∗ Φ 2 ∗ Φ 3) = iprop(Φ c ∗ Φ (hop 0 c) ∗ Φ (hop 1 c) ∗ Φ (hop 2 c)) :=
  (sep4 Φ).symm.trans (bigSep_univ_eq_bigSepL [c, hop 0 c, hop 1 c, hop 2 c] (by revert c; decide) (by revert c; decide) Φ)
/-- and as well those of the three devices before it. -/
theorem peersBefore (c : Dev nD) (Φ : Fin 4 → sProp 𝕄) : iprop(Φ 0 ∗ Φ 1 ∗ Φ 2 ∗ Φ 3) = iprop(Φ c ∗ Φ (back 0 c) ∗ Φ (back 1 c) ∗ Φ (back 2 c)) :=
  (sep4 Φ).symm.trans (bigSep_univ_eq_bigSepL [c, back 0 c, back 1 c, back 2 c] (by revert c; decide) (by revert c; decide) Φ)

/-! ## The rights and the places, as they are made -/

/-- All shared cells. -/
def cells : Finset (GSem nD τ sig) := Finset.univ.map ⟨fun cp : Dev nD × Part => cell cp.1 cp.2, cell_injective⟩

/-- Different devices, parts and peers have different tickets. -/
theorem rights_injective : Function.Injective fun x : Dev nD × Part × Fin 3 => (cell x.1 x.2.1, (0 : ℕ), x.2.2) := by
  rintro ⟨c, p, j⟩ ⟨c', p', j'⟩ h
  have h1 : (c, p) = (c', p') := cell_injective (congrArg (fun x : GSem nD τ sig × ℕ × Fin 3 => x.1) h)
  have h2 : j = j' := congrArg (fun x : GSem nD τ sig × ℕ × Fin 3 => x.2.2) h
  cases h1; cases h2; rfl
/-- Three rights for every cell. A cell with fewer duties leaves some of them unused. -/
def rights : Finset (GSem nD τ sig × ℕ × Fin 3) := Finset.univ.map ⟨_, rights_injective⟩

/-- What is made for a device: its cells' rounds, its places in them with the record that the first round has begun, and all rights on them. -/
def made (c : Dev nD) : sProp 𝕄 :=
  iprop((bigSep Finset.univ fun p : Part => roundState EB (sched m) (cell c p) 0)
    ∗ (bigSep Finset.univ fun p : Part => iprop(pos c p ∗ reached EB (cell c p) 0))
    ∗ (bigSep Finset.univ fun p : Part => bigSep Finset.univ fun j : Fin 3 => tok c p j))

/-- The ghost state of the cells and tickets, made into them. -/
theorem make : BI.own (EB (F := F) (initOf cells rights)) ⊢ (|==> bigSep Finset.univ (made m) : sProp 𝕄) := by
  have hc (Φ : GSem nD τ sig → sProp 𝕄) : bigSep cells Φ = bigSep Finset.univ fun c : Dev nD => bigSep Finset.univ fun p : Part => Φ (cell c p) := by
    unfold cells; rw [bigSep_map, bigSep_univ_prod]; rfl
  have hr : bigSep rights (fun x => (dutyTok EB x.1 x.2.1 x.2.2 : sProp 𝕄))
      = bigSep Finset.univ fun c : Dev nD => bigSep Finset.univ fun p : Part => bigSep Finset.univ fun j : Fin 3 => tok c p j := by
    unfold rights; rw [bigSep_map, bigSep_univ_prod]
    exact bigSep_congr fun c _ => by rw [bigSep_univ_prod]; rfl
  iintro H
  imod (Rounds.fund EB (sched m) cells rights) $$ H with ⟨Hs, Hr, Hp, Ht⟩
  imodintro
  ihave Hs := (Entails.of_eq (hc fun g => roundState EB (sched m) g 0)) $$ Hs
  ihave Hp := (Entails.of_eq (hc fun g => atPos EB g 0 ∅ 0)) $$ Hp
  ihave Hr := (Entails.of_eq (hc fun g => reached EB g 0)) $$ Hr
  ihave Ht := (Entails.of_eq hr) $$ Ht
  unfold made pos; simp only [bigSep_sep']
  isplitl [Hs]; · iexact Hs
  isplitl [Hp Hr]
  · isplitl [Hp] <;> iassumption
  iexact Ht

/-! ## The rights dealt -/

/-- The rights on a device's own cells, by who is to pay. -/
def rightsOn (c : Dev nD) : sProp 𝕄 :=
  iprop(tok c .bar 0 ∗ tok c .bar 1 ∗ tok c .bar 2 ∗ tok c .exit 0 ∗ tok c .exit 1 ∗ tok c .exit 2
    ∗ tok c (.recv (back 0 c)) 0 ∗ tok c (.recv (back 1 c)) 0 ∗ tok c (.recv (back 2 c)) 0
    ∗ tok c (.send 0) 0 ∗ tok c (.send 1) 0 ∗ tok c (.send 2) 0)
/-- The rights that a device is to use. -/
def rightsOf (c : Dev nD) : sProp 𝕄 :=
  iprop(tok (hop 0 c) .bar 0 ∗ tok (hop 1 c) .bar 1 ∗ tok (hop 2 c) .bar 2 ∗ tok (hop 0 c) .exit 0 ∗ tok (hop 1 c) .exit 1 ∗ tok (hop 2 c) .exit 2
    ∗ tok (hop 0 c) (.recv c) 0 ∗ tok (hop 1 c) (.recv c) 0 ∗ tok (hop 2 c) (.recv c) 0
    ∗ tok c (.send 0) 0 ∗ tok c (.send 1) 0 ∗ tok c (.send 2) 0)

/-- The first of three. -/
theorem first_of_three (Φ : Fin 3 → sProp 𝕄) : bigSep Finset.univ Φ ⊢ Φ 0 := bigSep_elim (Finset.mem_univ 0)

/-- All tickets of a device's cells give those that are ever used. -/
theorem rightsOn_intro (c : Dev nD) : (bigSep Finset.univ fun p : Part => bigSep Finset.univ fun j : Fin 3 => (tok c p j : sProp 𝕄)) ⊢ rightsOn c := by
  rw [sepParts, peersBefore c (fun s => bigSep Finset.univ fun j : Fin 3 => (tok c (.recv s) j : sProp 𝕄)), sep3 (fun j => tok c .bar j), sep3 (fun j => tok c .exit j)]
  unfold rightsOn
  iintro ⟨⟨B0, B1, B2⟩, ⟨E0, E1, E2⟩, ⟨S0, S1, S2⟩, -, R0, R1, R2⟩
  isplitl [B0]; · iexact B0
  isplitl [B1]; · iexact B1
  isplitl [B2]; · iexact B2
  isplitl [E0]; · iexact E0
  isplitl [E1]; · iexact E1
  isplitl [E2]; · iexact E2
  isplitl [R0]; · iapply (first_of_three fun j => tok c (.recv (back 0 c)) j) $$ R0
  isplitl [R1]; · iapply (first_of_three fun j => tok c (.recv (back 1 c)) j) $$ R1
  isplitl [R2]; · iapply (first_of_three fun j => tok c (.recv (back 2 c)) j) $$ R2
  isplitl [S0]; · iapply (first_of_three fun j => tok c (.send 0) j) $$ S0
  isplitl [S1]; · iapply (first_of_three fun j => tok c (.send 1) j) $$ S1
  iapply (first_of_three fun j => tok c (.send 2) j) $$ S2

/-- A family over the devices is the same family counted from the device `j + 1` places on. -/
theorem shift (j : Fin 3) (Φ : Dev nD → sProp 𝕄) : bigSep Finset.univ Φ = bigSep Finset.univ fun c => Φ (hop j c) :=
  bigSep_univ_equiv (hopE j) Φ
/-- The receive rights, which name the payer, likewise. -/
theorem shift_recv (j : Fin 3) : (bigSep Finset.univ fun c : Dev nD => (tok c (.recv (back j c)) 0 : sProp 𝕄))
    = bigSep Finset.univ fun c : Dev nD => tok (hop j c) (.recv c) 0 :=
  (shift j _).trans (bigSep_congr fun c _ => by rw [back_hop])

/-- The tickets sorted by the cell are the tickets sorted by the device that pays. -/
theorem rights_dealt : (bigSep Finset.univ fun c : Dev nD => (rightsOn c : sProp 𝕄)) = bigSep Finset.univ fun c : Dev nD => rightsOf c := by
  unfold rightsOn rightsOf
  simp only [bigSep_sep', shift_recv]
  rw [shift 0 (fun c : Dev nD => (tok c .bar 0 : sProp 𝕄)), shift 1 (fun c : Dev nD => (tok c .bar 1 : sProp 𝕄)),
    shift 2 (fun c : Dev nD => (tok c .bar 2 : sProp 𝕄)), shift 0 (fun c : Dev nD => (tok c .exit 0 : sProp 𝕄)),
    shift 1 (fun c : Dev nD => (tok c .exit 1 : sProp 𝕄)), shift 2 (fun c : Dev nD => (tok c .exit 2 : sProp 𝕄))]

/-! ## The cells opened to the devices -/

/-- A device's places. -/
def places (c : Dev nD) : sProp 𝕄 := bigSep Finset.univ fun p : Part => pos c p

/-- One device: its cells' protocols begin, and the semaphores of its own copies stay with it. -/
theorem begin_device (c : Dev nD) :
    iprop(Pipeline.ownSems0 (Ix := Unit) (Name := ℕ) (U := UU) (Lvl := ℕ) (Val := Elt F) (τ := τ) osem c ∗ unscopedSems0 c ∗ made m c)
      ⊢ |={Set.univ}=> iprop((bigSep Finset.univ fun p : Part => iprop(∃ κ : ℕ, cellInv EB (sched m) κ (cell c p)))
          ∗ (bigSep Finset.univ fun p : Part => (reached EB (cell c p) 0 : sProp 𝕄)) ∗ places c ∗ rightsOn c ∗ locals c) := by
  have hv : iprop(free c .exit ∗ (free c (.send 0) ∗ free c (.send 1) ∗ free c (.send 2)) ∗ (free c (.recv 0) ∗ free c (.recv 1) ∗ free c (.recv 2) ∗ free c (.recv 3))
      ∗ free c .bar) ⊢ (bigSep Finset.univ fun p : Part => free c p : sProp 𝕄) := by
    rw [sepParts]
    iintro ⟨E, S, R, B⟩
    isplitl [B]; · iexact B
    isplitl [E]; · iexact E
    isplitl [S] <;> iassumption
  have ha : iprop((bigSep Finset.univ fun p : Part => free c p) ∗ bigSep Finset.univ fun p : Part => roundState EB (sched m) (cell c p) 0)
      ⊢ (|={Set.univ}=> bigSep Finset.univ fun p : Part => iprop(∃ κ : ℕ, cellInv EB (sched m) κ (cell c p)) : sProp 𝕄) := by
    rw [← bigSep_sep']
    exact (bigSep_mono fun p _ => (Rounds.body_intro EB (sched m) (cell c p)).trans inv_alloc).trans (bigSep_fupd _ _)
  rw [ownSems, otherSems]
  unfold made locals places
  rw [bigSep_sep']
  iintro ⟨⟨E, X, W0, W1, W2, S0, S1, S2, R0, R1, R2, R3⟩, B, St, ⟨Ps, Rs⟩, T⟩
  ihave V := hv $$ [E S0 S1 S2 R0 R1 R2 R3 B]
  · isplitl [E]; · iexact E
    isplitl [S0 S1 S2]
    · isplitl [S0]; · iexact S0
      isplitl [S1] <;> iassumption
    isplitl [R0 R1 R2 R3]
    · isplitl [R0]; · iexact R0
      isplitl [R1]; · iexact R1
      isplitl [R2] <;> iassumption
    iexact B
  imod ha $$ [V St] with I
  · isplitl [V] <;> iassumption
  imodintro
  isplitl [I]; · iexact I
  isplitl [Rs]; · iexact Rs
  isplitl [Ps]; · iexact Ps
  isplitl [T]; · iapply (rightsOn_intro c) $$ T
  isplitl [X]; · iexact X
  isplitl [W0]; · iexact W0
  isplitl [W1] <;> iassumption

/-- What a device starts with besides memory: every cell's protocol, its places, its rights and the semaphores of its own copies. -/
def starts (c : Dev nD) : sProp 𝕄 :=
  iprop((∃ K : Dev nD × Part → ℕ, (bigSep Finset.univ fun cp : Dev nD × Part => cellInv EB (sched m) (K cp) (cell cp.1 cp.2))
      ∗ (bigSep Finset.univ fun cp : Dev nD × Part => reached EB (cell cp.1 cp.2) 0))
    ∗ places c ∗ rightsOf c ∗ locals c)

/-- A device starts from what all know, its places, its tickets and its own semaphores. -/
theorem starts_intro (K : Dev nD × Part → ℕ) (c : Dev nD) :
    iprop(iprop((bigSep Finset.univ fun cp : Dev nD × Part => cellInv EB (sched m) (K cp) (cell cp.1 cp.2))
        ∗ (bigSep Finset.univ fun cp : Dev nD × Part => reached EB (cell cp.1 cp.2) 0)) ∗ places c ∗ rightsOf c ∗ locals c) ⊢ starts m c := by
  unfold starts
  iintro ⟨W, H⟩
  isplitl [W]; · iexists K; iexact W
  iexact H

/-- What holds for good can be given to every member of a family. -/
theorem give_all {R : sProp 𝕄} [BI.Persistent R] (Φ : Dev nD → sProp 𝕄) :
    iprop(R ∗ bigSep Finset.univ Φ) ⊢ bigSep Finset.univ fun c => iprop(R ∗ Φ c) := by
  rw [bigSep_sep']
  exact sep_mono_left (BI.bigSep_of_persistent Finset.univ R)

/-- What all devices have begun, put together and dealt. -/
theorem deal : (bigSep Finset.univ fun c : Dev nD => iprop((bigSep Finset.univ fun p : Part => iprop(∃ κ : ℕ, cellInv EB (sched m) κ (cell c p)))
      ∗ (bigSep Finset.univ fun p : Part => (reached EB (cell c p) 0 : sProp 𝕄)) ∗ places c ∗ rightsOn c ∗ locals c)) ⊢ bigSep Finset.univ (starts m) := by
  simp only [bigSep_sep']
  rw [← bigSep_univ_prod (fun cp : Dev nD × Part => iprop(∃ κ : ℕ, cellInv EB (sched m) κ (cell cp.1 cp.2))),
    ← bigSep_univ_prod (fun cp : Dev nD × Part => (reached EB (cell cp.1 cp.2) 0 : sProp 𝕄)), rights_dealt]
  iintro ⟨HI, #HR, HP, HT, HL⟩
  ihave HK := (BI.bigSep_exists_pi Finset.univ (fun (cp : Dev nD × Part) (κ : ℕ) => (cellInv EB (sched m) κ (cell cp.1 cp.2) : sProp 𝕄))) $$ HI
  icases HK with ⟨%K, #HI⟩
  have fin : iprop(iprop((bigSep Finset.univ fun cp : Dev nD × Part => cellInv EB (sched m) (K cp) (cell cp.1 cp.2))
        ∗ (bigSep Finset.univ fun cp : Dev nD × Part => reached EB (cell cp.1 cp.2) 0))
      ∗ bigSep Finset.univ fun c : Dev nD => iprop(places c ∗ rightsOf c ∗ locals c)) ⊢ (bigSep Finset.univ (starts m) : sProp 𝕄) := by
    exact (give_all _).trans (bigSep_mono fun c _ => starts_intro m K c)
  iapply fin
  isplitr
  · isplitr <;> iassumption
  simp only [bigSep_sep']
  isplitl [HP]; · iexact HP
  isplitl [HT] <;> iassumption

/-- All devices at once. -/
theorem begin_all : (bigSep Finset.univ fun c => iprop(Pipeline.ownSems0 (Ix := Unit) (Name := ℕ) (U := UU) (Lvl := ℕ) (Val := Elt F) (τ := τ) osem c
      ∗ unscopedSems0 c ∗ made m c) : sProp 𝕄) ⊢ |={Set.univ}=> bigSep Finset.univ (starts m) :=
  ((bigSep_mono fun c _ => begin_device m c).trans (bigSep_fupd _ _)).trans (BI.fupd_mono (deal m))

/-! ## The credit at launch -/

/-- A debt to one cell, read at another. -/
theorem tally_at (d c : Dev nD) (q p : Part) (k : ℕ) :
    (tallyAt (cell d q) () k : CellTallies nD τ sig Unit) (cell c p) () = k * (if d = c ∧ q = p then 1 else 0) := by
  rw [tallyAt_apply]
  by_cases h : d = c ∧ q = p
  · rw [if_pos h, if_pos ⟨by rw [h.1, h.2], rfl⟩, Nat.mul_one]
  · rw [if_neg h, if_neg fun e => h ?_, Nat.mul_zero]
    have := cell_injective (a₁ := (c, p)) (a₂ := (d, q)) e.1
    exact ⟨(congrArg Prod.fst this).symm, (congrArg Prod.snd this).symm⟩

/-- How many of the peers of `d`, all of whose cells `q` it pays once, make `p` on `c` out of that. -/
def hits (d c : Dev nD) (q p : Part) : ℕ :=
  (if hop 2 d = c ∧ q = p then 1 else 0) + (if hop 1 d = c ∧ q = p then 1 else 0) + (if hop 0 d = c ∧ q = p then 1 else 0)

/-- What device `d` owes at launch to a cell of device `c`, by kind. -/
theorem owes_at (d c : Dev nD) (p : Part) : owesB d (cell c p) () = hits d c .exit p + N * hits d c (.recv d) p + hits d c .bar p := by
  unfold owesB owesR owesE hits
  simp only [Pi.add_apply, Finsupp.add_apply, tally_at, Nat.mul_add, Nat.one_mul]
  omega

/-- The barrier of a device is owed three signals and nothing else, -/
theorem count_bar (c : Dev nD) : (∑ d, hits d c .exit .bar) = 0 ∧ (∑ d, hits d c (.recv d) .bar) = 0 ∧ (∑ d, hits d c .bar .bar) = 3 := by revert c; decide
/-- so is its exit semaphore, -/
theorem count_exit (c : Dev nD) : (∑ d, hits d c .exit .exit) = 3 ∧ (∑ d, hits d c (.recv d) .exit) = 0 ∧ (∑ d, hits d c .bar .exit) = 0 := by revert c; decide
/-- and a receive semaphore is owed one block. -/
theorem count_recv (j : Fin 3) (c : Dev nD) : (∑ d, hits d c .exit (.recv (hop j c))) = 0 ∧ (∑ d, hits d c (.recv d) (.recv (hop j c))) = 1
    ∧ (∑ d, hits d c .bar (.recv (hop j c))) = 0 := by revert j c; decide

/-- The launch's credit at a cell is the sum of what is owed to it. -/
theorem credit_at (c : Dev nD) (p : Part) (e r b k : ℕ) (h : (∑ d, hits d c .exit p) = e ∧ (∑ d, hits d c (.recv d) p) = r ∧ (∑ d, hits d c .bar p) = b)
    (hk : e + N * r + b = k) :
    tallyOn (cell c p) (launchCredit (Pipeline.owing owesB) 0 (cell c p)) = (tallyAt (cell c p) () k : CellTallies nD τ sig Unit) := by
  unfold tallyAt; refine congrArg _ (Finsupp.ext fun u => ?_); cases u
  rw [Pipeline.launchCredit_owing, Finsupp.single_eq_same, Finset.sum_congr rfl fun d _ => owes_at d c p, Finset.sum_add_distrib, Finset.sum_add_distrib,
    ← Finset.mul_sum, h.1, h.2.1, h.2.2, hk]

/-- Different parts are played by different semaphores. -/
theorem sem_ne {p q : Part} (h : p ≠ q) : semOf p ≠ semOf q := fun e =>
  h (Option.some.inj ((partOf_semOf p).symm.trans ((congrArg partOf e).trans (partOf_semOf q))))

/-- Each device has the credit of its waits on its peers. -/
theorem credits (c : Dev nD) : (Pipeline.launchCred owesB c : sProp 𝕄)
    ⊢ iprop(cred (tallyAt (cell c .bar) () 3) ∗ cred (tallyAt (cell c .exit) () 3) ∗ cred (tallyAt (cell c (.recv (hop 0 c))) () N)
      ∗ cred (tallyAt (cell c (.recv (hop 1 c))) () N) ∗ cred (tallyAt (cell c (.recv (hop 2 c))) () N)) := by
  have hr (j : Fin 3) := credit_at c (.recv (hop j c)) 0 1 0 N (count_recv j c) (by omega)
  have ne (j j' : Fin 3) (h : j ≠ j') : semOf (.recv (hop j c)) ≠ semOf (.recv (hop j' c)) := sem_ne fun e => h ((hop_inj j j' c).mp (by injection e))
  rw [← credit_at c .bar 0 0 3 3 (count_bar c) (by omega), ← credit_at c .exit 3 0 0 3 (count_exit c) (by omega), ← hr 0, ← hr 1, ← hr 2]
  unfold Pipeline.launchCred
  have be : semOf .exit ≠ semOf .bar := sem_ne (by decide)
  have rb (j : Fin 3) : semOf (.recv (hop j c)) ≠ semOf .bar := sem_ne fun e => by cases e
  have re (j : Fin 3) : semOf (.recv (hop j c)) ≠ semOf .exit := sem_ne fun e => by cases e
  have pick (Φ : SemLoc sig → sProp 𝕄) : bigSep Finset.univ Φ ⊢ iprop(Φ (semOf .bar) ∗ Φ (semOf .exit) ∗ Φ (semOf (.recv (hop 0 c)))
      ∗ Φ (semOf (.recv (hop 1 c))) ∗ Φ (semOf (.recv (hop 2 c)))) := by
    have m0 : semOf .bar ∈ (Finset.univ : Finset (SemLoc sig)) := Finset.mem_univ _
    have m1 : semOf .exit ∈ Finset.univ.erase (semOf .bar) := Finset.mem_erase.mpr ⟨be, Finset.mem_univ _⟩
    have m2 (j : Fin 3) : semOf (.recv (hop j c)) ∈ (Finset.univ.erase (semOf .bar)).erase (semOf .exit) :=
      Finset.mem_erase.mpr ⟨re j, Finset.mem_erase.mpr ⟨rb j, Finset.mem_univ _⟩⟩
    have m3 (j : Fin 3) (h : j ≠ 0) : semOf (.recv (hop j c)) ∈ ((Finset.univ.erase (semOf .bar)).erase (semOf .exit)).erase (semOf (.recv (hop 0 c))) :=
      Finset.mem_erase.mpr ⟨ne j 0 h, m2 j⟩
    rw [bigSep_erase m0, bigSep_erase m1, bigSep_erase (m2 0), bigSep_erase (m3 1 (by decide))]
    exact sep_mono_right (sep_mono_right (sep_mono_right (sep_mono_right (bigSep_elim (Finset.mem_erase.mpr ⟨ne 2 1 (by decide), m3 2 (by decide)⟩)))))
  exact pick fun sm => cred (tallyOn ((c : Thread nD τ), sm) (launchCredit (Pipeline.owing owesB) 0 ((c : Thread nD τ), sm)))

end Cert.Exchange

end
-- ==== Proof.Launch.lean ====
/-
# Launch: the run of all four devices, from the launch to the final memory

Each device starts with its memory, its places and rights in the exchange, and the credit of its waits. The buffers in
slots are cut into them, the right to read `w` is cut into four parts, and after the run all is put together again.
The theorem at the end says of every final state that each device's inputs are unchanged, that its result holds the
columns of the exchange, and that every semaphore is back at zero.
-/
module

public import proofs.«01_k».proof.Proof.Deal
public import Idealize.ShloMosaic.Lib.Pipeline.CollectiveSegs
public import Idealize.ShloMosaic.Lib.Quiescent

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Before and after a device's run -/

/-- The landing slot for the device itself, which nothing touches. -/
def ownSlot (c : Dev nD) : sProp 𝕄 := iprop(∃ f, rPts c c f)
/-- What a device's run starts from, apart from the staged result and what it owes. -/
def Before (c : Dev nD) : sProp 𝕄 := iprop((∃ K, world m K) ∗ memory m c ∗ locals c ∗ protocol c ∗ free c (.recv c) ∗ ownSlot c)
/-- What it leaves. -/
def After (c : Dev nD) : sProp 𝕄 := iprop(memory m c ∗ locals c ∗ frees c ∗ free c (.recv c) ∗ ownSlot c)

/-- The pipeline's data: one point, at which the staged result becomes the device's columns. -/
def dats (_ : Fin 1) (c : Dev nD) : Dat τ (Elt F) Unit ℕ UU ℕ cfg0 c where
  A w := m ((cfg0.win w).arr.view.loc (c : Thread nD τ))
  after w _ := match w with
    | ⟨0, _⟩ => outCols m c
  Φ t := match t with
    | ⟨0, _⟩ => Before m c
    | ⟨_ + 1, _⟩ => After m c
  q _ := fullShare
  owed t := match t with
    | ⟨0, _⟩ => owesB c
    | ⟨_ + 1, _⟩ => 0

/-- The windows are held whole. -/
theorem share_full (c : Dev nD) (w : Fin cfg0.W) : (dats m 0 c).share w = fullShare := by unfold Dat.share; split <;> rfl

/-- The staged result of a device holding `X`. -/
abbrev staged (c : Dev nD) (X : S4096x512.Idx → Elt F .f32) : sProp 𝕄 :=
  iprop(∃ f : Buf (Elt F) ((c : Thread nD τ).loc cc0_stg0_0), ⌜f = X⌝ ∗ (((c : Thread nD τ).loc cc0_stg0_0) ↦{fullShare} f))

/-- Holding the staging buffer's window is holding the staged result. -/
theorem owns_staged (c : Dev nD) (X : S4096x512.Idx → Elt F .f32) :
    (owns (Ix := Unit) (Name := ℕ) (U := UU) (Lvl := ℕ) (c : Thread nD τ) (Memref.whole cc0_stg0_0) fullShare X : sProp 𝕄) = staged c X := by
  unfold owns; simp only [Memref.view_whole, View.read_whole, View.set_whole]

/-- What the body starts from. -/
def bodyPre (c : Dev nD) : sProp 𝕄 :=
  iprop(Before m c ∗ (dats m 0 c).owesAt () t0_0.castSucc ∗ (∃ d, staged c ((dats m 0 c).before (0 : Fin 1) t0_0 d)))
/-- What the body ends with. -/
def bodyPost (c : Dev nD) : sProp 𝕄 :=
  iprop(After m c ∗ (dats m 0 c).owesAt () t0_0.succ ∗ staged c (outCols m c))

/-- A device's run of the body, as the pipeline asks for it. -/
theorem body_sound (c : Dev nD) : bodyPre m c ⊢ run c
    (cc0_body (F := F) xM (Memref.isWhole_whole _) wM (Memref.isWhole_whole _) oM (Memref.isWhole_whole _) xvM (Memref.isWhole_whole _) wvM (Memref.isWhole_whole _) accM (Memref.isWhole_whole _) sbM (Memref.isWhole_whole _) rbM (Memref.isWhole_whole _) cc0_scratch5 cc0_scratch6 cc0_scratch7 cc0_scratch8 cc0_scoped0)
    (fun _ => bodyPost m c) := by
  unfold bodyPre Before Dat.owesAt Pipeline.owesWithin
  iintro ⟨⟨⟨%K, #W⟩, Hm, Hl, Hp, Hf, Hs⟩, ⟨%Ws, -, HO⟩, ⟨%d, %f, -, Ho⟩⟩
  iapply (body_run m K c f) $$ W [HO] Hm Hl Hp [Ho]
  · unfold ow; iexists Ws; iexact HO
  · unfold oPts; iexact Ho
  unfold ow oPts
  iintro ⟨⟨%Ws', HO⟩, Hm, Hl, Hfr, Ho⟩
  unfold bodyPost After Dat.owesAt Pipeline.owesWithin
  isplitl [Hm Hl Hfr Hf Hs]
  · isplitl [Hm]; · iexact Hm
    isplitl [Hl]; · iexact Hl
    isplitl [Hfr]; · iexact Hfr
    isplitl [Hf] <;> iassumption
  isplitl [HO]
  · iexists Ws'; isplitr; · ipureintro; exact fun _ _ => Or.inl trivial
    iexact HO
  iexists (outCols m c); isplitr; · ipureintro; rfl
  iexact Ho

/-- The body at its one grid point takes the one to the other. -/
theorem body_obligation (c : Dev nD) : BodyObligation (dats (F := F) m 0 c) (defs₀ (F := F)) 𝒱₀ () Set.univ := fun t => by
  rw [fin_N0 t, bigSep_W0, bigSep_W0]
  simp only [owns_staged]
  exact body_sound m c

/-! ## The memory, cut and joined -/

/-- The part of the right to read `w` that no copy takes. -/
def wRest (c : Dev nD) : sProp 𝕄 := ((c : Thread nD τ).loc main_arg1) ↦{Transfers.shareDrop fullShare 3} inW m c

/-- The copy of `w` is cut into three shares for the copies in flight and a rest. -/
theorem w_cut (c : Dev nD) : (((c : Thread nD τ).loc main_arg1) ↦{fullShare} inW m c : sProp 𝕄) ⊢ iprop(wRest m c ∗ wTok m c 0 ∗ wTok m c 1 ∗ wTok m c 2) :=
  (Transfers.pointsTo_toks_split fullShare 3).trans (by rw [sep3]; exact BI.Entails.refl _)

/-- The row bands' buffer in its three slots, -/
theorem bands_cut (c : Dev nD) : (iprop(∃ f : Buf (Elt F) ((c : Thread nD τ).loc cc0_scratch1), ((c : Thread nD τ).loc cc0_scratch1) ↦{fullShare} f) : sProp 𝕄)
    ⊢ iprop((∃ f, wPts c 0 f) ∗ (∃ f, wPts c 1 f) ∗ (∃ f, wPts c 2 f)) := by
  iintro ⟨%f, H⟩
  ihave H := (Entails.of_eq ((Ring.pointsTo_blocks (fun i : Fin 3 => wSet i.val (wInb i)) wSet_disjoint wSet_cover f).trans (sep3 _))) $$ H
  icases H with ⟨H0, H1, H2⟩
  unfold wPts
  isplitl [H0]; · iexists f; iexact H0
  isplitl [H1]; · iexists f; iexact H1
  iexists f; iexact H2
/-- and out of them. -/
theorem bands_join (c : Dev nD) (f₀ : S3x512x2048.Idx → Elt F .f32) : (iprop((∃ f, wPts c 0 f) ∗ (∃ f, wPts c 1 f) ∗ (∃ f, wPts c 2 f)) : sProp 𝕄)
    ⊢ iprop(∃ f : Buf (Elt F) ((c : Thread nD τ).loc cc0_scratch1), ((c : Thread nD τ).loc cc0_scratch1) ↦{fullShare} f) := by
  refine (Entails.of_eq (sep3 fun i => iprop(∃ f, wPts c i f)).symm).trans ?_
  unfold wPts
  exact Ring.pointsTo_blocks_join_exists (ℓ := (c : Thread nD τ).loc cc0_scratch1) (fun i : Fin 3 => wSet i.val (wInb i)) wSet_disjoint wSet_cover f₀

/-- The send buffer in its three slots, -/
theorem sends_cut (c : Dev nD) : (iprop(∃ f : Buf (Elt F) ((c : Thread nD τ).loc cc0_scratch3), ((c : Thread nD τ).loc cc0_scratch3) ↦{fullShare} f) : sProp 𝕄)
    ⊢ iprop((∃ f, sPts c 0 f) ∗ (∃ f, sPts c 1 f) ∗ (∃ f, sPts c 2 f)) := by
  iintro ⟨%f, H⟩
  ihave H := (Entails.of_eq ((Ring.pointsTo_blocks (fun i : Fin 3 => sSet i.val (sInb i)) sSet_disjoint sSet_cover f).trans (sep3 _))) $$ H
  icases H with ⟨H0, H1, H2⟩
  unfold sPts
  isplitl [H0]; · iexists f; iexact H0
  isplitl [H1]; · iexists f; iexact H1
  iexists f; iexact H2
/-- and out of them. -/
theorem sends_join (c : Dev nD) (f₀ : S3x1024x512.Idx → Elt F .bf16) : (iprop((∃ f, sPts c 0 f) ∗ (∃ f, sPts c 1 f) ∗ (∃ f, sPts c 2 f)) : sProp 𝕄)
    ⊢ iprop(∃ f : Buf (Elt F) ((c : Thread nD τ).loc cc0_scratch3), ((c : Thread nD τ).loc cc0_scratch3) ↦{fullShare} f) := by
  refine (Entails.of_eq (sep3 fun i => iprop(∃ f, sPts c i f)).symm).trans ?_
  unfold sPts
  exact Ring.pointsTo_blocks_join_exists (ℓ := (c : Thread nD τ).loc cc0_scratch3) (fun i : Fin 3 => sSet i.val (sInb i)) sSet_disjoint sSet_cover f₀

/-- The landing buffer is the device's own slot and its peers' three. -/
theorem lands_parts (c : Dev nD) (f : Buf (Elt F) ((c : Thread nD τ).loc cc0_scratch4)) : (((c : Thread nD τ).loc cc0_scratch4) ↦{fullShare} f : sProp 𝕄)
    ⊢ iprop(rPts c c f ∗ rPts c (hop 0 c) f ∗ rPts c (hop 1 c) f ∗ rPts c (hop 2 c) f) := by
  rw [Ring.pointsTo_blocks (ℓ := (c : Thread nD τ).loc cc0_scratch4) rSet rSet_disjoint rSet_cover f]
  refine BI.Entails.trans ?_ (Entails.of_eq ((sep4 fun s => rPts c s f).trans (peersAfter c fun s => rPts c s f)))
  unfold rPts
  exact BI.Entails.refl _

/-- The landing buffer in its slots for the device itself and for its peers, -/
theorem lands_cut (c : Dev nD) : (iprop(∃ f : Buf (Elt F) ((c : Thread nD τ).loc cc0_scratch4), ((c : Thread nD τ).loc cc0_scratch4) ↦{fullShare} f) : sProp 𝕄)
    ⊢ iprop(ownSlot c ∗ (∃ f, rPts c (hop 0 c) f) ∗ (∃ f, rPts c (hop 1 c) f) ∗ (∃ f, rPts c (hop 2 c) f)) := by
  iintro ⟨%f, H⟩
  ihave H := (lands_parts c f) $$ H
  icases H with ⟨H, H0, H1, H2⟩
  unfold ownSlot
  isplitl [H]; · iexists f; iexact H
  isplitl [H0]; · iexists f; iexact H0
  isplitl [H1]; · iexists f; iexact H1
  iexists f; iexact H2
/-- and out of them. -/
theorem lands_join (c : Dev nD) (f₀ : S4x1024x512.Idx → Elt F .bf16) : (iprop(ownSlot c ∗ (∃ f, rPts c (hop 0 c) f) ∗ (∃ f, rPts c (hop 1 c) f) ∗ (∃ f, rPts c (hop 2 c) f)) : sProp 𝕄)
    ⊢ iprop(∃ f : Buf (Elt F) ((c : Thread nD τ).loc cc0_scratch4), ((c : Thread nD τ).loc cc0_scratch4) ↦{fullShare} f) := by
  refine (Entails.of_eq ((sep4 fun s => iprop(∃ f, rPts c s f)).trans (peersAfter c fun s => iprop(∃ f, rPts c s f))).symm).trans ?_
  unfold rPts
  exact Ring.pointsTo_blocks_join_exists (ℓ := (c : Thread nD τ).loc cc0_scratch4) rSet rSet_disjoint rSet_cover f₀

/-! ## The launch's side conditions -/

/-- What a device starts with besides its fast memory. -/
def ready (c : Dev nD) : sProp 𝕄 :=
  iprop((∃ K, world m K) ∗ protocol c ∗ locals c ∗ free c (.recv c) ∗ xPts m c ∗ wTok m c 0 ∗ wTok m c 1 ∗ wTok m c 2)

/-- From what the launch gives a device. The cell that its own block would land on is never used and leaves the protocol at once. -/
theorem ready_intro (c : Dev nD) :
    iprop(Pipeline.unscopedRestP Pipeline.Prefetch.none cfg0.spec c (fun b => m ((c : Thread nD τ).loc b)) ∗ levAts L lv
        ∗ Pipeline.launchCred owesB c ∗ prngReg c (ρ c) ∗ starts m c)
      ⊢ |={Set.univ}=> iprop(ready m c ∗ wRest m c) := by
  have hplaces : (places c : sProp 𝕄) = iprop(pos c .bar ∗ pos c .exit ∗ (pos c (.send 0) ∗ pos c (.send 1) ∗ pos c (.send 2))
      ∗ (pos c (.recv c) ∗ pos c (.recv (hop 0 c)) ∗ pos c (.recv (hop 1 c)) ∗ pos c (.recv (hop 2 c)))) := by
    unfold places; rw [sepParts, peersAfter c fun s => pos c (.recv s)]
  have hrest : (Pipeline.unscopedRestP Pipeline.Prefetch.none cfg0.spec c (fun b => m ((c : Thread nD τ).loc b)) : sProp 𝕄)
      ⊢ iprop(xPts m c ∗ ((c : Thread nD τ).loc main_arg1) ↦{fullShare} inW m c) := by
    rw [Pipeline.unscopedRestP_none, unscopedRest0_eq]; exact BI.Entails.refl _
  unfold starts
  rw [hplaces]
  unfold rightsOf
  iintro ⟨HB, #Hlev, Hc, -, ⟨%K, #HI, #HR⟩, ⟨PB, PE, ⟨PS0, PS1, PS2⟩, P, P0, P1, P2⟩, ⟨B0, B1, B2, E0, E1, E2, R0, R1, R2, S0, S1, S2⟩, HL⟩
  ihave #W : world m K $$ []
  · unfold world
    isplitr; · iexact HI
    isplitr <;> iassumption
  ihave HB := hrest $$ HB
  icases HB with ⟨HX, HW⟩
  ihave HW := (w_cut m c) $$ HW
  icases HW with ⟨HWr, HW0, HW1, HW2⟩
  ihave Hc := (credits (F := F) c) $$ Hc
  icases Hc with ⟨CB, CE, C0, C1, C2⟩
  imod (Rounds.cell_close EB (sched m) (Set.mem_univ (K (c, .recv c))) (fun h => h) (R := 0) (fun r _ => duties_self m c r)) $$ [P] with Hf
  · isplitr; · iapply (world_inv m K c (.recv c)) $$ W
    unfold pos; iexact P
  imodintro
  unfold ready protocol
  isplitr [HWr]
  · isplitr; · iexists K; iexact W
    isplitr [HL Hf HX HW0 HW1 HW2]
    · isplitl [PB]; · iexact PB
      isplitl [PE]; · iexact PE
      isplitl [PS0]; · iexact PS0
      isplitl [PS1]; · iexact PS1
      isplitl [PS2]; · iexact PS2
      isplitl [P0]; · iexact P0
      isplitl [P1]; · iexact P1
      isplitl [P2]; · iexact P2
      isplitl [CB]; · iexact CB
      isplitl [CE]; · iexact CE
      isplitl [C0]; · iexact C0
      isplitl [C1]; · iexact C1
      isplitl [C2]; · iexact C2
      isplitl [B0]; · iexact B0
      isplitl [B1]; · iexact B1
      isplitl [B2]; · iexact B2
      isplitl [E0]; · iexact E0
      isplitl [E1]; · iexact E1
      isplitl [E2]; · iexact E2
      isplitl [R0]; · iexact R0
      isplitl [R1]; · iexact R1
      isplitl [R2]; · iexact R2
      isplitl [S0]; · iexact S0
      isplitl [S1]; · iexact S1
      iexact S2
    isplitl [HL]; · iexact HL
    isplitl [Hf]; · unfold free; iexact Hf
    isplitl [HX]; · iexact HX
    isplitl [HW0]; · iexact HW0
    isplitl [HW1] <;> iassumption
  · iexact HWr

/-- With its fast memory the device is ready to run. -/
theorem enter (c : Dev nD) :
    iprop(ready m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Before m c from rfl, scopedRest0_eq]
  unfold ready Before memory
  iintro ⟨⟨W, Hp, Hl, Hf, HX, HW0, HW1, HW2⟩, -, HV, HB, HA, HS, HR⟩
  ihave HB := (bands_cut (F := F) c) $$ HB
  icases HB with ⟨B0, B1, B2⟩
  ihave HS := (sends_cut (F := F) c) $$ HS
  icases HS with ⟨S0, S1, S2⟩
  ihave HR := (lands_cut (F := F) c) $$ HR
  icases HR with ⟨Hs, R0, R1, R2⟩
  isplitl [W]; · iexact W
  isplitr [Hl Hp Hf Hs]
  · isplitl [HX]; · iexact HX
    isplitl [HV]; · unfold xvPts; iexact HV
    isplitl [HW0]; · iexact HW0
    isplitl [HW1]; · iexact HW1
    isplitl [HW2]; · iexact HW2
    isplitl [B0]; · iexact B0
    isplitl [B1]; · iexact B1
    isplitl [B2]; · iexact B2
    isplitl [HA]; · unfold aPts; iexact HA
    isplitl [S0]; · iexact S0
    isplitl [S1]; · iexact S1
    isplitl [S2]; · iexact S2
    isplitl [R0]; · iexact R0
    isplitl [R1] <;> iassumption
  isplitl [Hl]; · iexact Hl
  isplitl [Hp]; · iexact Hp
  isplitl [Hf] <;> iassumption

/-- What is kept for reading the final state: the barrier's semaphore at zero and the two inputs. -/
def kept (c : Dev nD) : sProp 𝕄 := iprop(unscopedSems0 c ∗ xPts m c)

/-- After its run the device gives back its semaphores at zero and its fast memory. -/
theorem leave (c : Dev nD) :
    (dats m 0 c).Φ (Fin.last cfg0.N) ⊢ iprop(kept m c ∗ Pipeline.ownSems0 osem c ∗ Pipeline.scopedRest cfg0.spec c) := by
  have hrecv : iprop(free c (.recv c) ∗ free c (.recv (hop 0 c)) ∗ free c (.recv (hop 1 c)) ∗ free c (.recv (hop 2 c)))
      ⊢ (iprop(free c (.recv 0) ∗ free c (.recv 1) ∗ free c (.recv 2) ∗ free c (.recv 3)) : sProp 𝕄) :=
    Entails.of_eq (peersAfter c fun s => free c (.recv s)).symm
  rw [show (dats m 0 c).Φ (Fin.last cfg0.N) = After m c from rfl, scopedRest0_eq]
  unfold kept
  rw [ownSems, otherSems]
  unfold After memory locals frees
  iintro ⟨⟨HX, HV, -, -, -, B0, B1, B2, HA, S0, S1, S2, R0, R1, R2⟩, ⟨FX, FW0, FW1, FW2⟩, ⟨FB, FE, FS0, FS1, FS2, FR0, FR1, FR2⟩, FR, Hs⟩
  ihave HB := (bands_join c (m ((c : Thread nD τ).loc cc0_scratch1))) $$ [B0 B1 B2]
  · isplitl [B0]; · iexact B0
    isplitl [B1] <;> iassumption
  ihave HS := (sends_join c (m ((c : Thread nD τ).loc cc0_scratch3))) $$ [S0 S1 S2]
  · isplitl [S0]; · iexact S0
    isplitl [S1] <;> iassumption
  ihave HR := (lands_join c (m ((c : Thread nD τ).loc cc0_scratch4))) $$ [Hs R0 R1 R2]
  · isplitl [Hs]; · iexact Hs
    isplitl [R0]; · iexact R0
    isplitl [R1] <;> iassumption
  ihave FR := hrecv $$ [FR FR0 FR1 FR2]
  · isplitl [FR]; · iexact FR
    isplitl [FR0]; · iexact FR0
    isplitl [FR1] <;> iassumption
  isplitl [FB HX]
  · isplitl [FB] <;> iassumption
  isplitr [HV HB HA HS HR]
  · isplitl [FE]; · iexact FE
    isplitl [FX]; · iexact FX
    isplitl [FW0]; · iexact FW0
    isplitl [FW1]; · iexact FW1
    isplitl [FW2]; · iexact FW2
    isplitl [FS0]; · iexact FS0
    isplitl [FS1]; · iexact FS1
    isplitl [FS2]; · iexact FS2
    iexact FR
  isplitl [HV]; · unfold xvPts; iexact HV
  isplitl [HB]; · iexact HB
  isplitl [HA]; · unfold aPts; iexact HA
  isplitl [HS] <;> iassumption

/-- The pipeline's own waits, on semaphores at level 0, are below everything that a device owes. -/
theorem waits (c : Dev nD) : (levAts L lv : sProp 𝕄) ⊢ Pipeline.cellsWaits cfgs (dats m) () 0 c :=
  Pipeline.cellsWaits_intro cfgs (dats m) () 0 c fun w s t => by
    have hl : lv ((c : Thread nD τ), (.dma ((cfg0.win w).sem s) : SemLoc sig)) () ≤ 0 := by
      show (partOf (.dma ((cfg0.win w).sem s) : SemLoc sig)).elim 0 lvOf ≤ 0
      rw [show partOf (.dma ((cfg0.win w).sem s) : SemLoc sig) = none from by fin_cases w; fin_cases s; decide +kernel]
      exact Nat.le_refl 0
    rcases t with ⟨_ | _, ht⟩
    · exact mayWait (above_owesB c) c _ hl
    · exact mayWait (above_zero 0) c _ hl

/-! ## The run -/

/-- The parts of the launch's ghost state: the pipeline's, the exchange's and the copies'. -/
def ghosts : UU := (initOf (Pipeline.cells cfgs cellOf_inj) (Pipeline.launchToks cfgs cellOf_inj), (initOf cells rights, 1))

/-- The ghost state is the pipeline's and the protocol's. -/
theorem ghosts_cut : (ownU ghosts : sProp 𝕄) ⊢ iprop(BI.own (EP (initOf (Pipeline.cells cfgs cellOf_inj) (Pipeline.launchToks cfgs cellOf_inj)))
    ∗ BI.own (EB (F := F) (initOf cells rights))) :=
  BI.own_op_elim ((uEmb : UEmb UU 𝕄).toEmb.op_of_mem (Prod.mk_mem_op (URA.mem_op_one _) (URA.mem_one_op _)))

/-- A device's result array after the run is its columns. -/
theorem result_cols (c : Dev nD) : (dats m 0 c).arrAt (0 : Fin 1) cfg0.N = outCols m c := by
  have hz : (fun a => win0_0.index (0 : Fin 1) a * main_v1.ty.shape.size a) = fun _ => 0 := funext fun a => by fin_cases a <;> decide
  have hr := fun f => Memref.read_access_unit_zero (Elt F) main_v1 hz (fun a => by fin_cases a <;> decide) f
  have h : (win0_0.blk (0 : Fin 1)).view.read (Elt F) ((dats m 0 c).arrAt (0 : Fin 1) cfg0.N) = outCols m c := by
    rw [show cfg0.N = ((0 : Fin 1) : Fin cfg0.N).val + 1 from rfl, (dats m 0 c).arrAt_succ (0 : Fin 1) (0 : Fin 1),
      show (cfg0.win (0 : Fin 1)).flush (0 : Fin 1) = true from by decide, if_pos rfl]
    exact View.read_write_univ _ _
  exact (hr _).symm.trans h

/-- What holds of device `c`'s arrays at the end. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outCols m c

/-- The inputs and the barrier's semaphore, read off the final state. -/
theorem read_end (c : Dev nD) (s' : Phys nD τ sig (Elt F)) :
    iprop(kept m c ∗ wRest m c ∗ SI s') ⊢ |={Set.univ}=> iprop(⌜(∀ sm : SemLoc sig, sm.isScoped .tc = false → s'.mem.sem ((c.tc : Thread nD τ), sm) = 0)
      ∧ s'.mem.mem ((c : Thread nD τ).loc main_arg0) = m ((c : Thread nD τ).loc main_arg0)
      ∧ s'.mem.mem ((c : Thread nD τ).loc main_arg1) = m ((c : Thread nD τ).loc main_arg1)⌝ ∗ SI s') := by
  unfold kept xPts wRest
  iintro ⟨⟨Hu, HX⟩, HW, HSI⟩
  icombine HSI HX gives %hx
  icombine HSI HW gives %hw
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hx, Buf.eq_of_forall_mem_univ hw⟩
  iexact HSI

set_option maxRecDepth 8000 in
/-- From any memory, at any float values: every weakly fair run of the four devices ends, and at every end each device's
    inputs are unchanged, its result holds its columns, and every semaphore is at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := body_obligation m) (hne := block_pos0) (harr := arr_whole0) (hstage := stage_whole0)
    (hshare := share_full m) (hdistinct := winFacts0.arr_inj)
    (O₀ := owesB) (howed₀ := fun _ => rfl) (howedN := fun _ => rfl) (L := L) (lv := lv) (hL := L_of_ne) (hwaits := waits m)
    (G := made m) (G' := starts m) (u₀ := ghosts)
    (hu₀ := by
      iintro H
      ihave H := ghosts_cut $$ H
      icases H with ⟨HP, HE⟩
      imod (make m) $$ HE with HG
      imodintro
      isplitl [HP] <;> iassumption)
    (hglob := begin_all m) (hA := fun _ _ => rfl) (hpf := fun _ k => k.elim0)
    (X := ready m) (Y := kept m) (Z := wRest m) (hX := ready_intro m ρ) (hin := enter m) (hout := leave m)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := read_end m)
    (hQ := fun s h hs => ⟨fun c => ⟨(h c).2.2.2.1, (h c).2.2.2.2, ((h c).1 (0 : Fin 1)).trans (result_cols m c)⟩,
      sem_eq_zero hs fun c => (h c).2.2.1⟩)

end Cert.Exchange

end
-- ==== Proof.Whole.lean ====
/-
# Whole: the run of the reference

The reference is one product on one device, `x · w` over the whole arrays. From any memory with zero counters it
terminates with the product in its result's buffer and its two arguments as they were (`run_main`).
-/
module

public import proofs.«01_k».proof.Proof.Gen.ReferenceIdeal
public import Idealize.ShloMosaic.Lib.StableHlo.Run
public import Idealize.ShloMosaic.Lib.Quiescent

@[expose] public section

noncomputable section

namespace Cert.Whole

open Cert.ReferenceIdeal Cert.ReferenceIdeal.Gen
open Idealize.ShloMosaic Idealize.ShloMosaic.TcCoe Idealize.ShloMosaic.StableHlo Idealize.SL.Sem

variable {F : FTy → Type} [FloatOps F]

/-- The product of the whole arrays. -/
def product (x : S4096x4096.Idx → Elt F .f32) (w : S4096x2048.Idx → Elt F .f32) : S4096x2048.Idx → Elt F .f32 :=
  Host.dotGeneral (F := F) (φ₁ := .f32) (φ₂ := .f32) dot_S4096x4096_S4096x2048_S4096x2048_1_0_0_1_n_n none x w

/-- The program's one operation. -/
abbrev line : List (HloOp τ sig (Elt F)) := [binary main_arg0 main_arg1 main_v0 product]

/-- The program is that operation. -/
theorem main_line (c : Dev nD) : main (F := F) c = seq line := rfl

/-- The operation leaves the product in the result, -/
theorem line_result (V : Valuation τ sig (Elt F)) :
    after line V (main_v0 : DevRef τ sig) = product (V (main_arg0 : DevRef τ sig)) (V (main_arg1 : DevRef τ sig)) := by
  after_results

/-- and does not write the first argument -/
theorem line_first (V : Valuation τ sig (Elt F)) : after line V (main_arg0 : DevRef τ sig) = V (main_arg0 : DevRef τ sig) := by
  after_results

/-- nor the second. -/
theorem line_second (V : Valuation τ sig (Elt F)) : after line V (main_arg1 : DevRef τ sig) = V (main_arg1 : DevRef τ sig) := by
  after_results

variable (m : (ℓ : Loc nD τ sig) → Buf (Elt F) ℓ) (ρ : Dev nD → PrngReg)

/-- What the reference leaves on its device: the product, and both arguments unchanged. -/
def Ends (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v0)
      = product (m ((c.tc : Thread nD τ).loc main_arg0)) (m ((c.tc : Thread nD τ).loc main_arg1))

/-- The reference terminates so, with every counter at zero (it has none). -/
theorem run_main : θ_run defs (onTc (τ := τ) (main (F := F))) ⟨m, fun _ => 0, ρ⟩
    (fun r => (∀ c, Ends m c r.2) ∧ r.2.sem = fun _ => 0) :=
  (θ_run defs _ _).mono
    (fun r h => ⟨fun c => ⟨(h c main_arg0).trans (line_first _), (h c main_arg1).trans (line_second _),
      (h c main_v0).trans (line_result _)⟩, sem_eq_zero_of_no_sems (by decide) r.2⟩)
    (run_seq (by decide) (by decide) defs main (fun _ => line) main_line (fun _ => binary_bufs_sub ..) m ρ)

end Cert.Whole

end
-- ==== Proof.Value.lean ====
/-
# Value: over the reals the exchanged columns are columns of the product

At the ideal values the sum over the eight bands is the whole contraction: the partial sum after `n` bands is the sum
of the first `512 n` products (`prods`), so the block that device `s` computes for device `t` holds the entries of
`x_s · w` in the columns of `t` (`blk_apply`, `own_apply`). The narrowing on the wire is the identity there, so the
columns that a device returns are the columns of the product of the whole `x` by `w` (`rows_product`).
-/
module

public import proofs.«01_k».proof.Proof.Contents
public import Idealize.ShloMosaic.Lib.MatmulPlain
public import Idealize.ShloMosaic.Lib.StackMember
public import Idealize.ShloMosaic.Lib.ValueLayout
public import Idealize.ShloMosaic.Lib.Pipeline.Value

@[expose] public section

noncomputable section

namespace Cert.Exchange

open Cert.KernelIdeal Cert.KernelIdeal.Gen
open Idealize.ShloMosaic Idealize.ShloMosaic.ValueIdx
open Idealize.ShloMosaic.TcCoe
open scoped BigOperators

/-! ## One band -/

/-- A band's product added to what was there: the entry gains the band's 512 products. -/
theorem band_apply (x : Vec Ideal S1024x512 .f32) (w : Vec Ideal S1x512x2048 .f32) (a : Fin 1024) (b : Fin 2048) :
    matmul (F := Ideal) (φ₁ := .f32) (φ₂ := .f32) dot_S1024x512_S512x2048_S1024x2048_1_0_0_1_n_n none x
        (shapeCast S512x2048 w shapeCasts_S1x512x2048_S512x2048) (constant S1024x2048 .f32 0x00000000#32) (ix2 a b)
      = ∑ k : Fin 512, x (ix2 a k) * w (ix3 (0 : Fin 1) k b) := by
  refine (Ideal.matmul_plain_apply none x _ _ a b).trans ?_
  rw [show (constant (F := Ideal) S1024x2048 .f32 0x00000000#32) (ix2 a b) = (0 : EReal) from Ideal.ofBits_zero_f32, zero_add]
  exact Finset.sum_congr rfl fun k _ => congrArg _ (shapeCast_1ab_ab_apply w _ k b)

/-- The same for the columns of one device, as the last band takes them. -/
theorem band_cols_apply (x : Vec Ideal S1024x512 .f32) (w : Vec Ideal S1x512x512 .f32) (a : Fin 1024) (b : Fin 512) :
    matmul (F := Ideal) (φ₁ := .f32) (φ₂ := .f32) dot_S1024x512_S512x512_S1024x512_1_0_0_1_n_n none x
        (shapeCast S512x512 w shapeCasts_S1x512x512_S512x512) (constant S1024x512 .f32 0x00000000#32) (ix2 a b)
      = ∑ k : Fin 512, x (ix2 a k) * w (ix3 (0 : Fin 1) k b) := by
  refine (Ideal.matmul_plain_apply none x _ _ a b).trans ?_
  rw [show (constant (F := Ideal) S1024x512 .f32 0x00000000#32) (ix2 a b) = (0 : EReal) from Ideal.ofBits_zero_f32, zero_add]
  exact Finset.sum_congr rfl fun k _ => congrArg _ (shapeCast_1ab_ab_apply w _ k b)

/-! ## The bands summed -/

section
variable (X : S1024x4096.Idx → Elt Ideal .f32) (W : S4096x2048.Idx → Elt Ideal .f32)

/-- The `k`-th product of entry `(a, b)` of `X · W`; zero from the 4096th on. -/
def prods (a : Fin 1024) (b : Fin 2048) (k : ℕ) : EReal :=
  if h : k < 4096 then X (ix2 (n0 := 1024) (n1 := 4096) a ⟨k, h⟩) * W (ix2 (n0 := 4096) (n1 := 2048) ⟨k, h⟩ b) else 0

/-- Below 4096 it is a product. -/
theorem prods_of_lt (a : Fin 1024) (b : Fin 2048) (k : ℕ) (h : k < 4096) :
    prods X W a b k = X (ix2 (n0 := 1024) (n1 := 4096) a ⟨k, h⟩) * W (ix2 (n0 := 4096) (n1 := 2048) ⟨k, h⟩ b) := dif_pos h

/-- The products of a band are the products from `o` to `o + 511`. -/
theorem band_prods (o : ℕ) (ho : o + 512 ≤ 4096) (a : Fin 1024) (b : Fin 2048) :
    ∑ k : Fin 512, xCols X o ho (ix2 a k) * wBand W o ho (ix3 (0 : Fin 1) k b) = ∑ k ∈ Finset.range 512, prods X W a b (o + k) := by
  rw [Finset.sum_range]
  exact Finset.sum_congr rfl fun k _ => (prods_of_lt X W a b (o + k.val) (by omega)).symm

/-- One more band: the first `o` products and the next 512 are the first `o + 512`. -/
theorem more (o : ℕ) (ho : o + 512 ≤ 4096) (a : Fin 1024) (b : Fin 2048) (A : EReal)
    (hA : A = ∑ k ∈ Finset.range o, prods X W a b k) :
    A + ∑ k : Fin 512, xCols X o ho (ix2 a k) * wBand W o ho (ix3 (0 : Fin 1) k b)
      = ∑ k ∈ Finset.range (o + 512), prods X W a b k := by
  rw [hA, band_prods, Finset.sum_range_add]

/-- After one band the sum has its first 512 products, -/
theorem acc0_apply (a : Fin 1024) (b : Fin 2048) : acc0 X W (ix2 a b) = ∑ k ∈ Finset.range 512, prods X W a b k := by
  unfold acc0 k0_pay1
  rw [shapeCast_self, band_apply, band_prods]
  simp only [Nat.zero_add]

/-- after two the first 1024, -/
theorem acc1_apply (a : Fin 1024) (b : Fin 2048) : acc1 X W (ix2 a b) = ∑ k ∈ Finset.range (512 + 512), prods X W a b k := by
  unfold acc1 k0_pay3 k0_pay2
  rw [shapeCast_self]
  refine (congrArg₂ (· + ·) rfl (band_apply _ _ a b)).trans (more X W 512 (by decide) a b _ (acc0_apply X W a b))

/-- after three, -/
theorem acc2_apply (a : Fin 1024) (b : Fin 2048) : acc2 X W (ix2 a b) = ∑ k ∈ Finset.range (1024 + 512), prods X W a b k := by
  unfold acc2 k0_pay4
  rw [shapeCast_self]
  refine (congrArg₂ (· + ·) rfl (band_apply _ _ a b)).trans (more X W 1024 (by decide) a b _ (acc1_apply X W a b))

/-- four, -/
theorem acc3_apply (a : Fin 1024) (b : Fin 2048) : acc3 X W (ix2 a b) = ∑ k ∈ Finset.range (1536 + 512), prods X W a b k := by
  unfold acc3 k0_pay5
  rw [shapeCast_self]
  refine (congrArg₂ (· + ·) rfl (band_apply _ _ a b)).trans (more X W 1536 (by decide) a b _ (acc2_apply X W a b))

/-- five, -/
theorem acc4_apply (a : Fin 1024) (b : Fin 2048) : acc4 X W (ix2 a b) = ∑ k ∈ Finset.range (2048 + 512), prods X W a b k := by
  unfold acc4 k0_pay6
  rw [shapeCast_self]
  refine (congrArg₂ (· + ·) rfl (band_apply _ _ a b)).trans (more X W 2048 (by decide) a b _ (acc3_apply X W a b))

/-- six -/
theorem acc5_apply (a : Fin 1024) (b : Fin 2048) : acc5 X W (ix2 a b) = ∑ k ∈ Finset.range (2560 + 512), prods X W a b k := by
  unfold acc5 k0_pay8 k0_pay7
  rw [shapeCast_self]
  refine (congrArg₂ (· + ·) rfl (band_apply _ _ a b)).trans (more X W 2560 (by decide) a b _ (acc4_apply X W a b))

/-- and seven bands, 512 more each time. -/
theorem acc6_apply (a : Fin 1024) (b : Fin 2048) : acc6 X W (ix2 a b) = ∑ k ∈ Finset.range (3072 + 512), prods X W a b k := by
  unfold acc6 k0_pay9
  rw [shapeCast_self]
  refine (congrArg₂ (· + ·) rfl (band_apply _ _ a b)).trans (more X W 3072 (by decide) a b _ (acc5_apply X W a b))

/-- Column `b` of device `t`, among the 2048. -/
def colOf (t : Dev nD) (b : Fin 512) : Fin 2048 := ⟨512 * t.val + b.val, by have : t.val < 4 := t.isLt; omega⟩

/-- All 4096 products. -/
theorem prods_all (a : Fin 1024) (b : Fin 2048) :
    ∑ k ∈ Finset.range (3584 + 512), prods X W a b k
      = ∑ k : Fin 4096, X (ix2 (n0 := 1024) (n1 := 4096) a k) * W (ix2 (n0 := 4096) (n1 := 2048) k b) := by
  rw [Finset.sum_range]
  exact Finset.sum_congr rfl fun k _ => prods_of_lt X W a b k.val k.isLt

/-- The block that a device keeps holds the product's entries. -/
theorem own_apply (t : Dev nD) (a : Fin 1024) (b : Fin 512) :
    own X W t (ix2 a b)
      = ∑ k : Fin 4096, X (ix2 (n0 := 1024) (n1 := 4096) a k) * W (ix2 (n0 := 4096) (n1 := 2048) k (colOf t b)) := by
  unfold own k0_pay13
  refine (congrArg₂ (· + ·) rfl (band_cols_apply _ _ a b)).trans ?_
  exact (more X W 3584 (by decide) a (colOf t b) _ (acc6_apply X W a (colOf t b))).trans (prods_all X W a (colOf t b))

/-- A landed block widened: over the reals its entries. -/
theorem widened_apply (v : Vec Ideal S1x1024x512 .bf16) (a : Fin 1024) (b : Fin 512) :
    k0_pay14 (F := Ideal) v (ix2 a b) = v (ix3 (0 : Fin 1) a b) :=
  shapeCast_1ab_ab_apply v shapeCasts_S1x1024x512_S1024x512 a b

/-- A block narrowed for the wire: over the reals the entries that would be kept. -/
theorem narrowed_apply (A x : Vec Ideal S1024x512 .f32) (w : Vec Ideal S1x512x512 .f32) (a : Fin 1024) (b : Fin 512) :
    k0_pay10 (F := Ideal) A x w (ix3 (0 : Fin 1) a b) = k0_pay13 (F := Ideal) A x w (ix2 a b) :=
  shapeCast_ab_1ab_apply (truncf (F := Ideal) .bf16 (k0_pay13 (F := Ideal) A x w) bitsLt_bf16_f32) shapeCasts_S1024x512_S1x1024x512 0 a b

/-- So does the block that goes to device `t`: narrowed and widened again, it is the block that would be kept. -/
theorem blk_apply (t : Dev nD) (a : Fin 1024) (b : Fin 512) : k0_pay14 (blk X W t) (ix2 a b) = own X W t (ix2 a b) :=
  (widened_apply _ a b).trans (narrowed_apply _ _ _ a b)

end

/-! ## The columns returned -/

/-- Over the reals, row `a` of row block `s` of what device `c` returns holds that row's product by the columns of
    `c`: `X s` the rows that device `s` holds, `W` the matrix that every device holds. -/
theorem rows_product (c : Dev nD) (X : Dev nD → S1024x4096.Idx → Elt Ideal .f32) (W : S4096x2048.Idx → Elt Ideal .f32)
    (f : S4096x512.Idx → Elt Ideal .f32) (s : Dev nD) (a : Fin 1024) (b : Fin 512) :
    rows c (own (X c) W c) (fun s => blk (X s) W c) f
        (ix2 (n0 := 4096) (n1 := 512) ⟨1024 * s.val + a.val, by have : s.val < 4 := s.isLt; omega⟩ b)
      = ∑ k : Fin 4096, X s (ix2 (n0 := 1024) (n1 := 4096) a k) * W (ix2 (n0 := 4096) (n1 := 2048) k (colOf c b)) := by
  by_cases hs : s = c
  · subst hs; rw [rows_own, own_apply]
  · obtain ⟨j, rfl⟩ : ∃ j, s = hop j c := (by decide : ∀ s c : Dev nD, s ≠ c → ∃ j, s = hop j c) s c hs
    rw [rows_peer, blk_apply, own_apply]

end Cert.Exchange

end
-- ==== Proof.Product.lean ====
/-
# Product: what the devices return together is the reference's product

Device `c`'s columns, as `run_main` leaves them, are block `c` of the columns of the reference's product (`out_block`),
whenever the devices hold the row blocks of one `x` and copies of one `w`.
-/
module

public import proofs.«01_k».proof.Proof.Launch
public import proofs.«01_k».proof.Proof.Value
public import proofs.«01_k».proof.Proof.Whole
public import Idealize.ShloMosaic.Lib.Layout

@[expose] public section

noncomputable section

namespace Cert.Exchange

open Cert.KernelIdeal Cert.KernelIdeal.Gen
open Idealize.ShloMosaic Idealize.ShloMosaic.ValueIdx
open Idealize.ShloMosaic.TcCoe
open scoped BigOperators

/-- An entry of the reference's product: the sum of its 4096 products. -/
theorem product_apply (x : Cert.ReferenceIdeal.S4096x4096.Idx → Elt Ideal .f32) (w : S4096x2048.Idx → Elt Ideal .f32) (r : Fin 4096) (b : Fin 2048) :
    Cert.Whole.product x w (ix2 r b)
      = ∑ k : Fin 4096, x (ix2 (n0 := 4096) (n1 := 4096) r k) * w (ix2 (n0 := 4096) (n1 := 2048) k b) :=
  StackMember.dotGeneral_plain_apply (m := 4096) (n := 2048) (k := 4096) (φ₁ := .f32) (φ₂ := .f32) none x w r b

/-- Device `c`'s columns are block `c` of the columns of the product of the whole arrays. -/
theorem out_block (m : (ℓ : Loc nD τ sig) → Buf (Elt Ideal) ℓ) (x : Cert.ReferenceIdeal.S4096x4096.Idx → Elt Ideal .f32) (w : S4096x2048.Idx → Elt Ideal .f32)
    (hx : ∀ s : Dev nD, inX m s = Layout.block ⟨2, ![1024, 4096]⟩ ⟨2, ![4096, 4096]⟩ 0 4 s x) (hw : ∀ s : Dev nD, inW m s = w) (c : Dev nD) :
    outCols m c = Layout.block ⟨2, ![4096, 512]⟩ ⟨2, ![4096, 2048]⟩ 1 4 c (Cert.Whole.product x w) := by
  funext z
  have hz : (z 0).val < 4096 := (z 0).isLt
  obtain ⟨s, a, b, e⟩ : ∃ (s : Dev nD) (a : Fin 1024) (b : Fin 512),
      z = ix2 (n0 := 4096) (n1 := 512) ⟨1024 * s.val + a.val, by have : s.val < 4 := s.isLt; omega⟩ b :=
    ⟨⟨(z 0).val / 1024, by show _ < 4; omega⟩, ⟨(z 0).val % 1024, by omega⟩, z 1, (eq_ix2 z).trans (by
      congr 1; exact Fin.ext (by show (z 0).val = 1024 * ((z 0).val / 1024) + (z 0).val % 1024; omega))⟩
  have hs : s.val < 4 := s.isLt
  rw [e]
  have eo : outCols m c = rows c (own (inX m c) w c) (fun s => blk (inX m s) w c) (m ((c : Thread nD τ).loc main_v1)) := by
    unfold outCols msg; simp only [hw]
  rw [eo, rows_product c (inX m) w _ s a b, Layout.block_apply]
  have ez (h : Layout.Tiles ⟨2, ![4096, 512]⟩ ⟨2, ![4096, 2048]⟩ 1 4) :
      h.idx c (ix2 (n0 := 4096) (n1 := 512) ⟨1024 * s.val + a.val, by omega⟩ b)
        = ix2 (n0 := 4096) (n1 := 2048) ⟨1024 * s.val + a.val, by omega⟩ (colOf c b) := by
    refine (eq_ix2 _).trans ?_
    congr 1
    exact Fin.ext (by show c.val * 512 + b.val = 512 * c.val + b.val; omega)
  rw [ez]
  refine Eq.trans (Finset.sum_congr rfl fun k _ => ?_) (product_apply x w _ _).symm
  rw [hx s, Layout.block_apply]
  refine congrArg (fun j => x j * _) ((eq_ix2 _).trans ?_)
  congr 1
  exact Fin.ext (by show s.val * 1024 + a.val = 1024 * s.val + a.val; omega)

end Cert.Exchange

end
-- ==== Proof.lean ====
/-
# The claims about the exchange

A kernel of four devices: each multiplies its row block of `x` by the whole of `w`, sends every peer the columns that
the peer is to return, and stacks the blocks that it gets into its own columns of `x · w`.

The run is proved once, over any float values (`Proof/Launch.lean`, `Cert.Exchange.run_main`): every weakly fair
execution terminates with each device's columns as `Proof/Body.lean` states them, the arguments unchanged and every
counter at zero. Here that run is read at the machine's values and at the ideal ones for the two frames, and against
the run of the reference (`Proof/Whole.lean`) for the value: over the reals the columns of the devices are the columns
of the product (`Proof/Product.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Whole
public import proofs.«01_k».proof.Proof.Product

@[expose] public section

noncomputable section

namespace Cert.Proof

open Idealize.ShloMosaic Idealize.SL.Sem

section
variable {F : FTy → Type} [FloatOps F]

/-- The kernel is printed twice, once for each reading of its floats, and the two texts run the same body, -/
theorem same_body : Cert.Kernel.defs₀ (F := F) = Cert.KernelIdeal.defs₀ (F := F) :=
  congrArg Defs.onTc (funext fun ℓ => funext fun x => match ℓ, x with
    | 0, (_, _) => rfl)

/-- in the same pipeline. -/
theorem same_table : Cert.Kernel.defs (F := F) = Cert.KernelIdeal.defs (F := F) :=
  congrArg (Pipeline.defs Cert.KernelIdeal.pcfgs) same_body

end

/-- The kernel at the machine's values terminates, keeps its arguments and returns every counter to zero. -/
theorem frame_kernel : Cert.quiescent_Kernel := fun m ρ _ => by
  rw [same_table]
  exact (θ_run Cert.KernelIdeal.defs _ _).mono (fun _ h => ⟨fun c => ⟨(h.1 c).1, (h.1 c).2.1⟩, h.2⟩)
    (Cert.Exchange.run_main (F := Bits) m ρ)

/-- So does the kernel at the ideal values. -/
theorem frame_ideal : Cert.quiescent_KernelIdeal := fun m ρ _ =>
  (θ_run Cert.KernelIdeal.defs _ _).mono (fun _ h => ⟨fun c => ⟨(h.1 c).1, (h.1 c).2.1⟩, h.2⟩)
    (Cert.Exchange.run_main (F := Ideal) m ρ)

/-- So does the reference. -/
theorem frame_reference : Cert.quiescent_ReferenceIdeal := fun m ρ _ =>
  (θ_run Cert.ReferenceIdeal.defs _ _).mono (fun _ h => ⟨fun c => ⟨(h.1 c).1, (h.1 c).2.1⟩, h.2⟩)
    (Cert.Whole.run_main (F := Ideal) m ρ)

/-- Over the reals the kernel's four results are the four column blocks of the reference's result, for arguments that
    are the blocks of one `x` and copies of one `w`. -/
theorem same_product : Cert.algebraic_KernelIdeal_ReferenceIdeal := fun m ρ m' ρ' _ agree =>
  ⟨Cert.Whole.product (F := Ideal) (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun _ h c => ⟨(h.1 c).2.2.trans (Cert.Exchange.out_block m _ _ (fun s => (agree s).1) (fun s => (agree s).2) c),
        (h.1 c).1, (h.1 c).2.1⟩)
      (Cert.Exchange.run_main (F := Ideal) m ρ),
    (θ_run Cert.ReferenceIdeal.defs _ _).mono
      (fun _ h => ⟨(h.1 0).2.2, (h.1 0).1, (h.1 0).2.1⟩)
      (Cert.Whole.run_main (F := Ideal) m' ρ')⟩

/-- Every claim. -/
theorem claim : Cert.Claim :=
  ⟨Cert.Kernel.Gen.facts, Cert.KernelIdeal.Gen.facts, Cert.ReferenceIdeal.Gen.facts,
    frame_kernel, frame_ideal, frame_reference, trivial, same_product⟩

end Cert.Proof

end
